-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v48)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x8192 : Shape := ⟨3, ![2, 4096, 8192]⟩
abbrev S_ : Shape := ⟨0, ![]⟩
abbrev S2x4096x4096 : Shape := ⟨3, ![2, 4096, 4096]⟩
abbrev S8192x4096 : Shape := ⟨2, ![8192, 4096]⟩
abbrev S8192x8192 : Shape := ⟨2, ![8192, 8192]⟩
abbrev S8x128 : Shape := ⟨2, ![8, 128]⟩
abbrev S512x4096 : Shape := ⟨2, ![512, 4096]⟩
abbrev S32x16x4096 : Shape := ⟨3, ![32, 16, 4096]⟩
abbrev S16x4096 : Shape := ⟨2, ![16, 4096]⟩
abbrev S16x32x128 : Shape := ⟨3, ![16, 32, 128]⟩
abbrev S16x128 : Shape := ⟨2, ![16, 128]⟩
abbrev S254 : Shape := ⟨1, ![254]⟩
abbrev S1 : Shape := ⟨1, ![1]⟩
abbrev S8192x256 : Shape := ⟨2, ![8192, 256]⟩
abbrev S256x4096 : Shape := ⟨2, ![256, 4096]⟩

abbrev nBuf : Space → Nat
  | .hbm => 77
  | .vmem => 14
  | .smem => 2
  | _ => 0

abbrev bufTy : (tb : Table) → Fin (tcTables nBuf tb) → BufTy
  | .hbm, ⟨0, _⟩ => ⟨S2x4096x8192, .fp8e4m3⟩
  | .hbm, ⟨1, _⟩ => ⟨S_, .f32⟩
  | .hbm, ⟨2, _⟩ => ⟨S2x4096x4096, .bf16⟩
  | .hbm, ⟨3, _⟩ => ⟨S8192x4096, .f32⟩
  | .hbm, ⟨4, _⟩ => ⟨S8192x8192, .fp8e4m3⟩
  | .hbm, ⟨5, _⟩ => ⟨S8192x4096, .bf16⟩
  | .hbm, ⟨6, _⟩ => ⟨S8x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S254, .i32⟩
  | .hbm, ⟨12, _⟩ => ⟨S_, .i32⟩
  | .hbm, ⟨13, _⟩ => ⟨S254, .i32⟩
  | .hbm, ⟨14, _⟩ => ⟨S254, .i32⟩
  | .hbm, ⟨15, _⟩ => ⟨S_, .i32⟩
  | .hbm, ⟨16, _⟩ => ⟨S254, .i32⟩
  | .hbm, ⟨17, _⟩ => ⟨S254, .i32⟩
  | .hbm, ⟨18, _⟩ => ⟨S_, .i32⟩
  | .hbm, ⟨19, _⟩ => ⟨S254, .i32⟩
  | .hbm, ⟨20, _⟩ => ⟨S254, .i32⟩
  | .hbm, ⟨21, _⟩ => ⟨S254, .f32⟩
  | .hbm, ⟨22, _⟩ => ⟨S254, .f32⟩
  | .hbm, ⟨23, _⟩ => ⟨S254, .i1⟩
  | .hbm, ⟨24, _⟩ => ⟨S254, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .f32⟩
  | .hbm, ⟨30, _⟩ => ⟨S_, .i1⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .f32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .f32⟩
  | .hbm, ⟨55, _⟩ => ⟨S_, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S1, .f32⟩
  | .hbm, ⟨72, _⟩ => ⟨S8192x4096, .fp8e5m2⟩
  | .hbm, ⟨73, _⟩ => ⟨S_, .f32⟩
  | .hbm, ⟨74, _⟩ => ⟨S1, .f32⟩
  | .hbm, ⟨75, _⟩ => ⟨S8192x4096, .f32⟩
  | .hbm, ⟨76, _⟩ => ⟨S2x4096x4096, .fp8e5m2⟩
  | .local _ .vmem, ⟨0, _⟩ => ⟨S512x4096, .bf16⟩
  | .local _ .vmem, ⟨1, _⟩ => ⟨S512x4096, .bf16⟩
  | .local _ .vmem, ⟨2, _⟩ => ⟨S8x128, .f32⟩
  | .local _ .vmem, ⟨3, _⟩ => ⟨S512x4096, .bf16⟩
  | .local _ .vmem, ⟨4, _⟩ => ⟨S512x4096, .bf16⟩
  | .local _ .vmem, ⟨5, _⟩ => ⟨S512x4096, .fp8e5m2⟩
  | .local _ .vmem, ⟨6, _⟩ => ⟨S512x4096, .fp8e5m2⟩
  | .local _ .vmem, ⟨7, _⟩ => ⟨S8192x256, .fp8e4m3⟩
  | .local _ .vmem, ⟨8, _⟩ => ⟨S8192x256, .fp8e4m3⟩
  | .local _ .vmem, ⟨9, _⟩ => ⟨S8192x4096, .fp8e5m2⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | .local _ .smem, ⟨0, _⟩ => ⟨S1, .f32⟩
  | .local _ .smem, ⟨1, _⟩ => ⟨S1, .f32⟩
  | _, _ => ⟨S2x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_c_7 : Ref sig .tc := ⟨.hbm, 34, rfl⟩
abbrev main_call0_v0 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev main_c_9 : Ref sig .tc := ⟨.hbm, 39, rfl⟩
abbrev main_call1_v0 : Ref sig .tc := ⟨.hbm, 40, rfl⟩
abbrev main_v23 : Ref sig .tc := ⟨.hbm, 41, rfl⟩
abbrev main_c_10 : Ref sig .tc := ⟨.hbm, 42, rfl⟩
abbrev main_v24 : Ref sig .tc := ⟨.hbm, 43, rfl⟩
abbrev main_c_11 : Ref sig .tc := ⟨.hbm, 44, rfl⟩
abbrev main_v25 : Ref sig .tc := ⟨.hbm, 45, rfl⟩
abbrev main_c_12 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_13 : Ref sig .tc := ⟨.hbm, 50, rfl⟩
abbrev main_v29 : Ref sig .tc := ⟨.hbm, 51, rfl⟩
abbrev main_c_14 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_15 : Ref sig .tc := ⟨.hbm, 57, rfl⟩
abbrev main_v34 : Ref sig .tc := ⟨.hbm, 58, rfl⟩
abbrev main_c_16 : Ref sig .tc := ⟨.hbm, 59, rfl⟩
abbrev main_v35 : Ref sig .tc := ⟨.hbm, 60, rfl⟩
abbrev main_c_17 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_18 : Ref sig .tc := ⟨.hbm, 65, rfl⟩
abbrev main_v39 : Ref sig .tc := ⟨.hbm, 66, rfl⟩
abbrev main_c_19 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg4_1 : Ref sig .tc := ⟨.vmem, 13, rfl⟩
abbrev cc1_stg0_0 : Ref sig .tc := ⟨.smem, 0, rfl⟩
abbrev cc2_stg0_0 : Ref sig .tc := ⟨.smem, 1, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem3_0 : DmaSem sig := 12
abbrev cc2_sem3_1 : DmaSem sig := 13
abbrev cc2_sem4_0 : DmaSem sig := 14
abbrev cc2_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![16], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S8192x256 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8192x4096 .fp8e5m2 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S2x4096x8192 : Shape := ⟨3, ![2, 4096, 8192]⟩
abbrev S_ : Shape := ⟨0, ![]⟩
abbrev S2x4096x4096 : Shape := ⟨3, ![2, 4096, 4096]⟩
abbrev S8192x4096 : Shape := ⟨2, ![8192, 4096]⟩
abbrev S254 : Shape := ⟨1, ![254]⟩
abbrev S1 : Shape := ⟨1, ![1]⟩
abbrev S8192x8192 : Shape := ⟨2, ![8192, 8192]⟩

abbrev nBuf : Space → Nat
  | .hbm => 39
  | .vmem => 5
  | .smem => 2
  | _ => 0

abbrev bufTy : (tb : Table) → Fin (tcTables nBuf tb) → BufTy
  | .hbm, ⟨0, _⟩ => ⟨S2x4096x8192, .fp8e4m3⟩
  | .hbm, ⟨1, _⟩ => ⟨S_, .f32⟩
  | .hbm, ⟨2, _⟩ => ⟨S2x4096x4096, .bf16⟩
  | .hbm, ⟨3, _⟩ => ⟨S8192x4096, .f32⟩
  | .hbm, ⟨4, _⟩ => ⟨S254, .f32⟩
  | .hbm, ⟨5, _⟩ => ⟨S2x4096x4096, .f32⟩
  | .hbm, ⟨6, _⟩ => ⟨S2x4096x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S254, .f32⟩
  | .hbm, ⟨12, _⟩ => ⟨S254, .i1⟩
  | .hbm, ⟨13, _⟩ => ⟨S_, .f32⟩
  | .hbm, ⟨14, _⟩ => ⟨S_, .f32⟩
  | .hbm, ⟨15, _⟩ => ⟨S254, .f32⟩
  | .hbm, ⟨16, _⟩ => ⟨S254, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .i1⟩
  | .hbm, ⟨23, _⟩ => ⟨S_, .i1⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S8192x8192, .fp8e4m3⟩
  | .hbm, ⟨35, _⟩ => ⟨S8192x4096, .bf16⟩
  | .hbm, ⟨36, _⟩ => ⟨S8192x4096, .f32⟩
  | .hbm, ⟨37, _⟩ => ⟨S8192x4096, .fp8e5m2⟩
  | .hbm, ⟨38, _⟩ => ⟨S2x4096x4096, .fp8e5m2⟩
  | .local _ .vmem, ⟨0, _⟩ => ⟨S8192x8192, .fp8e4m3⟩
  | .local _ .vmem, ⟨1, _⟩ => ⟨S8192x4096, .bf16⟩
  | .local _ .vmem, ⟨2, _⟩ => ⟨S8192x4096, .f32⟩
  | .local _ .vmem, ⟨3, _⟩ => ⟨S8192x4096, .f32⟩
  | .local _ .vmem, ⟨4, _⟩ => ⟨S8192x4096, .fp8e5m2⟩
  | .local _ .smem, ⟨0, _⟩ => ⟨S1, .f32⟩
  | .local _ .smem, ⟨1, _⟩ => ⟨S1, .f32⟩
  | _, _ => ⟨S2x4096x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_cst_4 : Ref sig .tc := ⟨.hbm, 19, rfl⟩
abbrev main_v8 : Ref sig .tc := ⟨.hbm, 20, rfl⟩
abbrev main_cst_5 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_cst_7 : Ref sig .tc := ⟨.hbm, 26, rfl⟩
abbrev main_call1_v0 : Ref sig .tc := ⟨.hbm, 27, rfl⟩
abbrev main_v12 : Ref sig .tc := ⟨.hbm, 28, rfl⟩
abbrev main_cst_8 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19_0 : Ref sig .tc := ⟨.hbm, 36, rfl⟩
abbrev main_v19_1 : Ref sig .tc := ⟨.hbm, 37, rfl⟩
abbrev main_v20 : Ref sig .tc := ⟨.hbm, 38, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x4096 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
/- The run of the kernel's program with the contents of every buffer, not of its arguments alone: the launch over the
   program's segments, whose last state holds every unscoped buffer at the last boundary's contents `W11`. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every execution of the program terminates, nothing faulting, with every unscoped buffer of every core at the
    contents `W11` of the last boundary between the program's segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

/-- The same run read at the three results and at the arguments: the results at `W11`, the arguments as launched. -/
theorem run_results : θ_run defs (onTc (τ := τ) (main (F := F))) ⟨m, fun _ => 0, ρ⟩ (fun r => ∀ c : Dev nD,
      r.2.mem ((c.tc : Thread nD τ).loc main_v47) = W11 m ρ c (Proc.devRef .tc main_v47)
      ∧ r.2.mem ((c.tc : Thread nD τ).loc main_v48) = W11 m ρ c (Proc.devRef .tc main_v48)
      ∧ r.2.mem ((c.tc : Thread nD τ).loc main_v32) = W11 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v47 (by decide)), h c _ (mem_uc main_v48 (by decide)), h c _ (mem_uc main_v32 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩) (run_all m ρ)

end Cert.KernelIdeal.Value

end
-- ==== Proof.PowerWords.lean ====
/- Powers of two as words of f32: the word whose exponent field is `k + 127` and whose other bits are zero reads as
   `2 ^ k`, for every `k` with a normal f32; and the product of two such words, of the two halves of `e`, reads as `2 ^ e`. -/
module

public import Idealize.ShloMosaic.Lib.Pipeline.ValueKit
public import Idealize.ShloMosaic.Lib.Pointwise

@[expose] public section

set_option maxRecDepth 16384

noncomputable section

namespace Cert.Scale

open Idealize.ShloMosaic

/-- `2 ^ k` as an extended real. -/
def pow2 (k : ℤ) : EReal := (((2 : ℝ) ^ k : ℝ) : EReal)

/-- The power with exponent zero is one. -/
theorem pow2_zero : pow2 0 = 1 := by simp [pow2]
/-- A power of two is positive. -/
theorem pow2_pos (k : ℤ) : 0 < pow2 k := by
  unfold pow2; exact_mod_cast zpow_pos (by norm_num : (0 : ℝ) < 2) k
/-- The product of two powers has the sum of their exponents. -/
theorem pow2_add (k l : ℤ) : pow2 k * pow2 l = pow2 (k + l) := by
  unfold pow2; rw [← EReal.coe_mul, ← zpow_add₀ (by norm_num : (2 : ℝ) ≠ 0)]
/-- The powers increase with the exponent. -/
theorem pow2_mono {k l : ℤ} (h : k ≤ l) : pow2 k ≤ pow2 l := by
  unfold pow2; exact EReal.coe_le_coe_iff.mpr (zpow_le_zpow_right₀ (by norm_num) h)
/-- The quotient `1 / 2 ^ k` is `2 ^ (-k)`. -/
theorem div_pow2 (k : ℤ) : Ideal.div 1 (pow2 k) = pow2 (-k) := by
  unfold Ideal.div
  rw [if_neg (ne_of_gt (pow2_pos k)), one_mul]
  unfold pow2; rw [zpow_neg, EReal.coe_inv]

/-- The bits of the word with exponent field `E`: the sign, the field and the fraction. -/
theorem field_bits : ∀ E : Fin 255, (BitVec.extractLsb' 31 1 (BitVec.ofNat 32 E.val <<< 23) == 1#1) = false
    ∧ (BitVec.extractLsb' 23 8 (BitVec.ofNat 32 E.val <<< 23)).toNat = E.val
    ∧ (BitVec.extractLsb' 0 23 (BitVec.ofNat 32 E.val <<< 23)).toNat = 0 := by
  decide +kernel

/-- A word of f32 with sign bit 0, exponent field `E` between 1 and 254 and fraction 0 reads as `2 ^ (E - 127)`. -/
theorem ieee_power (b : BitVec 32) (E : ℕ) (h1 : 1 ≤ E) (h2 : E ≤ 254) (hs : (b.extractLsb' 31 1 == 1#1) = false)
    (he : (b.extractLsb' 23 8).toNat = E) (hf : (b.extractLsb' 0 23).toNat = 0) :
    Ideal.ofBits .f32 b = pow2 ((E : ℤ) - 127) := by
  have hb : Ideal.ofBits .f32 b = Ideal.ieee 8 23 b := rfl
  rw [hb]
  unfold Ideal.ieee
  simp only [show (8 : ℕ) + 23 = 31 from rfl, hs, he, hf]
  rw [if_neg (by norm_num; omega), if_neg (by omega)]
  unfold pow2
  congr 1
  have h23 : ((2 ^ 23 + 0 : ℕ) : ℝ) = (2 : ℝ) ^ (23 : ℤ) := by norm_num
  rw [h23]
  simp only [Bool.false_eq_true, if_false, one_mul]
  rw [← zpow_add₀ (by norm_num : (2 : ℝ) ≠ 0)]
  congr 1
  norm_num

/-- The word with exponent field `E`, between 1 and 254, reads as `2 ^ (E - 127)`. -/
theorem ofBits_field (E : ℕ) (h1 : 1 ≤ E) (h2 : E ≤ 254) :
    Ideal.ofBits .f32 (BitVec.ofNat 32 E <<< 23) = pow2 ((E : ℤ) - 127) := by
  obtain ⟨h3, h4, h5⟩ := field_bits ⟨E, by omega⟩
  exact ieee_power _ E h1 h2 h3 h4 h5

/-- The number that the kernel's host code makes of the integer word `k`: the f32 with exponent field `k + 127`. -/
def word (k : BitVec 32) : EReal :=
  Ideal.ofBits .f32 (IntOp.shli ArithUnit.host (IntOp.addi k 127#32) 23#32)

/-- A shift to the left by 23 on the host is in range, so it is the plain shift; -/
theorem shli_23 (x : BitVec 32) : IntOp.shli ArithUnit.host x 23#32 = x <<< 23 := by
  unfold IntOp.shli; rw [if_pos (by decide)]; rfl

/-- so is a signed shift to the right by 1. -/
theorem shrsi_1 (x : BitVec 32) : IntOp.shrsi ArithUnit.host x 1#32 = x.sshiftRight 1 := by
  unfold IntOp.shrsi; rw [if_pos (by decide)]; rfl

/-- The exponent field of an integer between -127 and 127: the integer plus 127. -/
theorem field_of : ∀ E : Fin 255, BitVec.ofInt 32 ((E.val : ℤ) - 127) + 127#32 = BitVec.ofNat 32 E.val := by
  decide +kernel

/-- `word` of the integer `k` is `2 ^ k`, for `k` from -126 to 127. -/
theorem word_ofInt (k : ℤ) (h1 : -126 ≤ k) (h2 : k ≤ 127) : word (BitVec.ofInt 32 k) = pow2 k := by
  obtain ⟨E, rfl⟩ : ∃ E : ℕ, k = (E : ℤ) - 127 := ⟨(k + 127).toNat, by omega⟩
  have h := field_of ⟨E, by omega⟩
  simp only at h
  unfold word IntOp.addi
  rw [shli_23, h]
  exact ofBits_field E (by omega) (by omega)

/-- `2 ^ e` as the kernel's host code makes it: the product of the two words of `e / 2` (rounded down) and of the rest. -/
def twoTo (e : BitVec 32) : EReal :=
  word (IntOp.shrsi ArithUnit.host e 1#32) * word (IntOp.subi e (IntOp.shrsi ArithUnit.host e 1#32))

/-- Half of an integer between -128 and 128, rounded down, and the rest, as words. -/
theorem halves : ∀ d : Fin 257, (BitVec.ofInt 32 ((d.val : ℤ) - 128)).sshiftRight 1 = BitVec.ofInt 32 (((d.val : ℤ) - 128) / 2)
    ∧ BitVec.ofInt 32 ((d.val : ℤ) - 128) - BitVec.ofInt 32 (((d.val : ℤ) - 128) / 2)
        = BitVec.ofInt 32 (((d.val : ℤ) - 128) - ((d.val : ℤ) - 128) / 2) := by
  decide +kernel

/-- `twoTo` of the integer `k` is `2 ^ k`, for `k` from -128 to 128. -/
theorem twoTo_ofInt (k : ℤ) (h1 : -128 ≤ k) (h2 : k ≤ 128) : twoTo (BitVec.ofInt 32 k) = pow2 k := by
  obtain ⟨d, rfl⟩ : ∃ d : ℕ, k = (d : ℤ) - 128 := ⟨(k + 128).toNat, by omega⟩
  obtain ⟨h3, h4⟩ := halves ⟨d, by omega⟩
  simp only at h3 h4
  unfold twoTo IntOp.subi
  rw [shrsi_1, h3, h4, word_ofInt _ (by omega) (by omega), word_ofInt _ (by omega) (by omega), pow2_add]
  congr 1
  omega

/-- The same at the negated word. -/
theorem twoTo_neg_ofInt (k : ℤ) (h1 : -128 ≤ k) (h2 : k ≤ 128) : twoTo (-BitVec.ofInt 32 k) = pow2 (-k) := by
  rw [← BitVec.ofInt_neg]
  exact twoTo_ofInt (-k) (by omega) (by omega)

end Cert.Scale

end
-- ==== Proof.Scale.lean ====
/- The scale. The kernel finds the exponent of the scale by counting: how many of the 254 normal powers of two are at
   most `x`, the largest magnitude divided by the largest code. The reference takes the largest of those powers and
   doubles it. The two scales are equal, and so are the two inverses. -/
module

public import proofs.«01_k».proof.Proof.PowerWords

@[expose] public section

set_option maxRecDepth 16384

noncomputable section

namespace Cert.Scale

open Idealize.ShloMosaic

/-! ## Counting the powers below a number -/

/-- The power of two with index `j`: `2 ^ (j - 126)`. -/
def pw (j : Fin 254) : EReal := pow2 ((j.val : ℤ) - 126)

/-- The powers increase with the index. -/
theorem pw_mono {i j : Fin 254} (h : i ≤ j) : pw i ≤ pw j := pow2_mono (by have : i.val ≤ j.val := h; omega)

/-- The indices of the powers that are at most `x`. -/
def belowSet (x : EReal) : Finset (Fin 254) := Finset.univ.filter fun j => pw j ≤ x

/-- The number of the powers that are at most `x`. -/
def num (x : EReal) : ℕ := (belowSet x).card

/-- There are 254 powers in all. -/
theorem num_le (x : EReal) : num x ≤ 254 := by
  unfold num
  exact (Finset.card_le_univ _).trans (by simp)

/-- The powers increase, so those at most `x` are the first `num x` of them. -/
theorem pw_le_iff (x : EReal) (j : Fin 254) : pw j ≤ x ↔ j.val < num x := by
  constructor
  · intro h
    have hs : Finset.Iic j ⊆ belowSet x := fun i hi => by
      simp only [belowSet, Finset.mem_filter, Finset.mem_univ, true_and]
      exact (pw_mono (Finset.mem_Iic.mp hi)).trans h
    have := Finset.card_le_card hs
    rw [Fin.card_Iic] at this
    unfold num
    omega
  · intro h
    by_contra hn
    have hs : belowSet x ⊆ Finset.Iio j := fun i hi => by
      simp only [belowSet, Finset.mem_filter, Finset.mem_univ, true_and] at hi
      rw [Finset.mem_Iio]
      by_contra hij
      exact hn ((pw_mono (not_lt.mp hij)).trans hi)
    have := Finset.card_le_card hs
    rw [Fin.card_Iio] at this
    unfold num at h
    omega

/-- A sum of flags, as words, is the word of the number of the indices where the flag is set. -/
theorem fold_flags {ι : Type} [DecidableEq ι] (s : Finset ι) (p : ι → Prop) [DecidablePred p] :
    s.fold IntOp.addi 0#32 (fun j => BitVec.setWidth 32 (BitVec.ofBool (decide (p j)))) = BitVec.ofNat 32 (s.filter p).card := by
  induction s using Finset.induction_on with
  | empty => rfl
  | insert a s ha ih =>
    rw [Finset.fold_insert ha, ih, Finset.filter_insert]
    by_cases hp : p a
    · rw [if_pos hp, Finset.card_insert_of_notMem (fun h => ha (Finset.mem_filter.mp h).1)]
      simp only [hp, decide_true]
      unfold IntOp.addi
      rw [Nat.add_comm, BitVec.ofNat_add]
      rfl
    · rw [if_neg hp]
      simp only [hp, decide_false]
      unfold IntOp.addi
      exact BitVec.zero_add _

/-! ## Flags -/

/-- The flag that a number is zero. -/
def isZero (x : EReal) : BitVec 1 := BitVec.ofBool (decide (x = 0))
/-- The flag that a number is infinite. -/
def isInf (x : EReal) : BitVec 1 := BitVec.ofBool (decide (x = Ideal.ofBits .f32 2139095040#32))
/-- The flag that `p` is at most `x`. -/
def atMost (p x : EReal) : BitVec 1 := BitVec.ofBool (decide (p ≤ x))

/-! ## The kernel's exponent -/

/-- The reciprocal of the largest code, as the f32 both programs multiply by. -/
def recip : EReal := Ideal.ofBits .f32 932333861#32

/-- The kernel's count, as its host code takes it. -/
def count (x : EReal) : BitVec 32 :=
  Finset.univ.fold IntOp.addi 0#32 fun j : Fin 254 =>
    BitVec.setWidth 32 (atMost (word (IntOp.addi 4294967170#32 (BitVec.ofNat 32 j.val))) x)

/-- The word from which the power with index `j` is made is the integer `j - 126`. -/
theorem index_word : ∀ j : Fin 254, 4294967170#32 + BitVec.ofNat 32 j.val = BitVec.ofInt 32 ((j.val : ℤ) - 126) := by
  decide +kernel

/-- The number made from it is the power. -/
theorem word_index (j : Fin 254) : word (IntOp.addi 4294967170#32 (BitVec.ofNat 32 j.val)) = pw j := by
  have := j.isLt
  unfold IntOp.addi
  rw [index_word, word_ofInt _ (by omega) (by omega)]
  rfl

/-- The count is the number of the powers that are at most `x`. -/
theorem count_eq (x : EReal) : count x = BitVec.ofNat 32 (num x) := by
  unfold count atMost
  simp only [word_index]
  exact fold_flags Finset.univ fun j => pw j ≤ x

/-- The kernel's exponent of the scale, of the largest magnitude `a` and `x`: zero if no power is at most `x`, if `x` is
    infinite or if `a` is zero, and the count minus 126 otherwise. -/
def expo (a x : EReal) : BitVec 32 :=
  Scalar.select (isZero a) 0#32
    (Scalar.select (IntOp.ori (IntOp.cmpi .eq (count x) 0#32) (isInf x))
      0#32 (IntOp.subi (count x) 126#32))

/-- A choice by a flag is a choice by the truth value. -/
theorem select_ofBool {α : Type} (b : Bool) (u v : α) : Scalar.select (BitVec.ofBool b) u v = if b then u else v := by
  cases b <;> rfl

/-- The disjunction of two flags. -/
theorem ori_ofBool (b c : Bool) : IntOp.ori (BitVec.ofBool b) (BitVec.ofBool c) = BitVec.ofBool (b || c) := by
  cases b <;> cases c <;> rfl

/-- The word of infinity reads as the greatest extended real. -/
theorem inf_word : Ideal.ofBits .f32 2139095040#32 = ⊤ := by simp [Ideal.ofBits, Ideal.ieee]

/-- The word of a count is zero exactly if the count is. -/
theorem ofNat_eq_zero : ∀ n : Fin 255, (BitVec.ofNat 32 n.val == 0#32) = decide (n.val = 0) := by decide +kernel

/-- The word of a count less 126 is the word of the difference, which may be negative. -/
theorem sub_126 : ∀ n : Fin 255, BitVec.ofNat 32 n.val - 126#32 = BitVec.ofInt 32 ((n.val : ℤ) - 126) := by decide +kernel

/-- The exponent in plain words: an integer between -128 and 128. -/
def expoInt (a x : EReal) : ℤ := if a = 0 ∨ num x = 0 ∨ x = ⊤ then 0 else (num x : ℤ) - 126

/-- The kernel's exponent is the word of this integer. -/
theorem expo_eq (a x : EReal) : expo a x = BitVec.ofInt 32 (expoInt a x) := by
  have h0 := ofNat_eq_zero ⟨num x, by have := num_le x; omega⟩
  have h1 := sub_126 ⟨num x, by have := num_le x; omega⟩
  simp only at h0 h1
  unfold expo expoInt isZero isInf IntOp.cmpi IntOp.subi
  simp only [count_eq, h0, h1, ori_ofBool, select_ofBool, inf_word]
  by_cases ha : a = 0
  · simp [ha]
  · by_cases hn : num x = 0
    · simp [ha, hn]
    · by_cases hx : x = ⊤
      · simp [ha, hn, hx]
      · simp [ha, hn, hx]

/-- Its range. -/
theorem expoInt_range (a x : EReal) : -128 ≤ expoInt a x ∧ expoInt a x ≤ 128 := by
  have := num_le x
  unfold expoInt
  split <;> omega

/-- The kernel's scale is `2` to its exponent. -/
theorem kernel_scale (a x : EReal) : twoTo (expo a x) = pow2 (expoInt a x) := by
  rw [expo_eq, twoTo_ofInt _ (expoInt_range a x).1 (expoInt_range a x).2]

/-- The kernel's inverse is `2` to the negated exponent. -/
theorem kernel_inv (a x : EReal) : twoTo (-expo a x) = pow2 (-expoInt a x) := by
  rw [expo_eq, twoTo_neg_ofInt _ (expoInt_range a x).1 (expoInt_range a x).2]

/-! ## The reference's scale -/

/-- The largest of the powers that are at most `x`, or zero, as the reference takes it off its table `T`. -/
def below (T : Fin 254 → EReal) (x : EReal) : EReal :=
  Finset.univ.fold max (Ideal.ofBits .f32 4286578688#32) fun j : Fin 254 =>
    Scalar.select (atMost (T j) x) (T j) 0

/-- The reference's scale of `x`: one if no power is at most `x` or if `x` is infinite, and twice the largest power
    otherwise. -/
def refScale (T : Fin 254 → EReal) (x : EReal) : EReal :=
  Scalar.select (IntOp.ori (isZero (below T x)) (isInf x))
    1 (Ideal.ofBits .f32 1073741824#32 * below T x)

/-- The word of minus infinity reads as the least extended real. -/
theorem ninf_word : Ideal.ofBits .f32 4286578688#32 = ⊥ := by simp [Ideal.ofBits, Ideal.ieee]

/-- The word of two reads as the first power of two. -/
theorem two_word : Ideal.ofBits .f32 1073741824#32 = pow2 1 := by
  have h := ofBits_field 128 (by omega) (by omega)
  rw [show (((128 : ℕ) : ℤ) - 127) = 1 from by norm_num] at h
  exact h

/-- The upper bounds of `below`. -/
theorem below_le (x b : EReal) : below pw x ≤ b ↔ ∀ j : Fin 254, (if j.val < num x then pw j else 0) ≤ b := by
  unfold below atMost
  simp only [select_ofBool, decide_eq_true_eq, pw_le_iff]
  rw [Finset.fold_max_le, ninf_word]
  simp

/-- With no power at most `x` it is zero. -/
theorem below_zero (x : EReal) (h : num x = 0) : below pw x = 0 := by
  refine eq_of_forall_ge_iff fun b => ?_
  rw [below_le]
  simp only [h, Nat.not_lt_zero, if_false]
  exact ⟨fun h => h 0, fun h _ => h⟩

/-- Otherwise it is the last of the first `num x` powers. -/
theorem below_pos (x : EReal) (h : num x ≠ 0) : below pw x = pow2 ((num x : ℤ) - 127) := by
  have hn := num_le x
  refine eq_of_forall_ge_iff fun b => ?_
  rw [below_le]
  constructor
  · intro hb
    have h1 := hb ⟨num x - 1, by omega⟩
    rw [if_pos (by simp only; omega)] at h1
    unfold pw at h1
    rwa [show ((((num x - 1 : ℕ)) : ℤ) - 126) = (num x : ℤ) - 127 from by omega] at h1
  · intro hb j
    split
    · next hj => exact (pow2_mono (by omega)).trans hb
    · exact (pow2_pos _).le.trans hb

/-- A number that no power is at most, or zero, gives no power. -/
theorem num_zero : num 0 = 0 := by
  unfold num belowSet
  rw [Finset.card_eq_zero, Finset.filter_eq_empty_iff]
  intro j _ h
  exact absurd h (not_le.mpr (pow2_pos _))

/-- The reference's scale is the kernel's power of two. -/
theorem ref_scale (a x : EReal) (ha : a = 0 → x = 0) : refScale pw x = pow2 (expoInt a x) := by
  unfold refScale isZero isInf
  rw [ori_ofBool, select_ofBool, inf_word, two_word]
  by_cases hn : num x = 0
  · rw [below_zero x hn]
    simp [expoInt, hn, pow2_zero]
  · have ha' : a ≠ 0 := fun h => hn (by rw [ha h]; exact num_zero)
    rw [below_pos x hn]
    have h0 : pow2 ((num x : ℤ) - 127) ≠ 0 := ne_of_gt (pow2_pos _)
    by_cases hx : x = ⊤
    · simp [expoInt, hx, pow2_zero]
    · simp only [h0, hx, decide_false, Bool.or_false, Bool.false_eq_true, if_false, pow2_add, expoInt, ha', hn, false_or]
      congr 1
      omega

/-! ## The equations -/

/-- The two scales are equal. -/
theorem scale_eq (a : EReal) : twoTo (expo a (a * recip)) = refScale pw (a * recip) := by
  rw [kernel_scale, ref_scale a _ (fun h => by rw [h, zero_mul])]

/-- The two inverses are equal: the reference divides one by its scale. -/
theorem inv_eq (a : EReal) : twoTo (-expo a (a * recip)) = Ideal.div 1 (refScale pw (a * recip)) := by
  rw [kernel_inv, ref_scale a _ (fun h => by rw [h, zero_mul]), div_pow2]

end Cert.Scale

end
-- ==== Proof.KernelHost.lean ====
/- What the kernel's host code computes between its pallas_calls, one stretch of operations at a time, from any contents
   `σ` of the buffers before the stretch. -/
module

public import proofs.«01_k».proof.Proof.KernelRun
public import proofs.«01_k».proof.Proof.Scale
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

open Cert.Scale

variable (σ : Valuation τ sig (Elt Ideal))

/-! ## Before the first call -/

/-- The activations reach the third call with their two leading axes in one. -/
theorem x_flat : StableHlo.after hostOps0 σ (Proc.devRef .tc main_v0)
    = shapeCast S8192x8192 (σ (Proc.devRef .tc main_arg0)) shapeCasts_S2x4096x8192_S8192x8192 := by
  entry_read
  rfl

/-- The gradients reach the first two calls with their two leading axes in one. -/
theorem dy_flat : StableHlo.after hostOps0 σ (Proc.devRef .tc main_v1)
    = shapeCast S8192x4096 (σ (Proc.devRef .tc main_arg2)) shapeCasts_S2x4096x4096_S8192x4096 := by
  entry_read
  rfl

/-! ## Between the first call and the second: the scale -/

/-- The maximum over the first call's result. -/
def largestPart (P : FVec Ideal S8x128 .f32) : EReal :=
  Host.reduce (FloatOps.maximumf (F := Ideal) (φ := .f32)) P
    (constant (F := Ideal) S_ .f32 0xFF800000#32) reducesTo_S8x128_S_d0_1 h_S_ ix0

/-- The maximum of the first call's result. -/
theorem max_read : StableHlo.after hostOps1 σ (Proc.devRef .tc main_v3) ix0 = largestPart (σ (Proc.devRef .tc main_v2)) := by
  entry_read
  unfold largestPart
  rfl

/-- A product with a constant, read at its only index. -/
theorem scaled_at (N : FVec Ideal S_ .f32) (b : BitVec 32) :
    mulf N (constant (F := Ideal) S_ .f32 b) ix0 = @HMul.hMul EReal EReal EReal _ (N ix0) (Ideal.ofBits .f32 b) := rfl

/-- The sum of the flags of the comparisons of `x` with the words of the powers. -/
theorem count_at (x : FVec Ideal S_ .f32) :
    Host.reduce IntOp.addi
      (extui 32
        (cmpf (F := Ideal) (φ := .f32) .oge (broadcastInDim S254 ![] bcast_S_S254 x)
          (bitcastToFloat .f32
            (Host.shli
              (addi (addi (broadcastInDim S254 ![] bcast_S_S254 (constantI S_ 32 4294967170#32)) (iotaInDim S254 32 0))
                (broadcastInDim S254 ![] bcast_S_S254 (constantI S_ 32 127#32)))
              (broadcastInDim S254 ![] bcast_S_S254 (constantI S_ 32 23#32)))))
        natLt_1_32)
      (constantI S_ 32 0#32) reducesTo_S254_S_d0 h_S_ ix0 = count (x ix0) := by
  pointwise [Cert.Scale.count, atMost, word]

/-- The count of the powers of two that are at most `x`. -/
theorem count_read : StableHlo.after hostOps1 σ (Proc.devRef .tc main_v16) ix0
    = count (largestPart (σ (Proc.devRef .tc main_v2)) * recip) := by
  entry_read
  unfold largestPart recip
  rw [count_at, scaled_at]

/-- A difference with a constant word, read at its only index. -/
theorem minus_at (N : IVec S_ 32) (b : BitVec 32) : subi N (constantI S_ 32 b) ix0 = IntOp.subi (N ix0) b := rfl

/-- The count less 126, which is the exponent where a power is at most the number. -/
theorem minus_read : StableHlo.after hostOps1 σ (Proc.devRef .tc main_v20) ix0
    = IntOp.subi (count (largestPart (σ (Proc.devRef .tc main_v2)) * recip)) 126#32 := by
  entry_read
  unfold largestPart recip
  rw [minus_at, count_at, scaled_at]

/-- The flag that a count is zero or a number infinite, read at its only index. -/
theorem none_at (N : IVec S_ 32) (x : FVec Ideal S_ .f32) :
    ori (cmpi .eq N (constantI S_ 32 0#32)) (cmpf (F := Ideal) (φ := .f32) .oeq x (constant (F := Ideal) S_ .f32 2139095040#32)) ix0
      = IntOp.ori (IntOp.cmpi .eq (N ix0) 0#32) (isInf (x ix0)) := by
  pointwise [isInf]

/-- The flag that no power is at most the number, or that the number is infinite. -/
theorem none_read : StableHlo.after hostOps1 σ (Proc.devRef .tc main_v19) ix0
    = IntOp.ori (IntOp.cmpi .eq (count (largestPart (σ (Proc.devRef .tc main_v2)) * recip)) 0#32)
      (isInf (largestPart (σ (Proc.devRef .tc main_v2)) * recip)) := by
  entry_read
  unfold largestPart recip
  rw [none_at, count_at, scaled_at]

/-- The exponent in those cases is zero. -/
theorem zero_read : StableHlo.after hostOps1 σ (Proc.devRef .tc main_c_7) ix0 = 0#32 := by
  entry_read
  rfl

/-- The choice between the two exponents. -/
theorem first_select : StableHlo.after hostOps1_1 σ (Proc.devRef .tc main_v21) ix0
    = (Scalar.select (σ (Proc.devRef .tc main_v19) ix0) (σ (Proc.devRef .tc main_c_7) ix0) (σ (Proc.devRef .tc main_v20) ix0) : BitVec 32) := by
  entry_read
  simp only [StableHlo.TRef.ofBuf_toBuf]
  simp -implicitDefEqProofs only [StableHlo.TRef.toBuf, StableHlo.TRef.ofBuf, cast_eq]
  pointwise

/-- That choice leaves the largest magnitude alone. -/
theorem max_kept : StableHlo.after hostOps1_1 σ (Proc.devRef .tc main_v3) = σ (Proc.devRef .tc main_v3) := by
  entry_read
  rfl

/-- The flag that the largest magnitude is zero. -/
theorem is_zero : StableHlo.after hostOps1_2 σ (Proc.devRef .tc main_v22) ix0 = isZero (σ (Proc.devRef .tc main_v3) ix0) := by
  entry_read
  pointwise [isZero]

/-- The exponent of a zero magnitude is zero. -/
theorem zero_read2 : StableHlo.after hostOps1_2 σ (Proc.devRef .tc main_c_9) ix0 = 0#32 := by
  entry_read
  rfl

/-- The stretch that makes this flag leaves the exponent alone. -/
theorem first_kept : StableHlo.after hostOps1_2 σ (Proc.devRef .tc main_v21) = σ (Proc.devRef .tc main_v21) := by
  entry_read
  rfl

/-- The choice between zero and the exponent. -/
theorem second_select : StableHlo.after hostOps1_3 σ (Proc.devRef .tc main_v23) ix0
    = (Scalar.select (σ (Proc.devRef .tc main_v22) ix0) (σ (Proc.devRef .tc main_c_9) ix0) (σ (Proc.devRef .tc main_v21) ix0) : BitVec 32) := by
  entry_read
  simp only [StableHlo.TRef.ofBuf_toBuf]
  simp -implicitDefEqProofs only [StableHlo.TRef.toBuf, StableHlo.TRef.ofBuf, cast_eq]
  pointwise

/-- The scale is made of the exponent as a product of two powers of two, -/
theorem scale_read : StableHlo.after hostOps1_4 σ (Proc.devRef .tc main_v32) ix0 = twoTo (σ (Proc.devRef .tc main_v23) ix0) := by
  entry_read
  pointwise [twoTo, word]

/-- and the inverse, the one entry of an array, likewise of the negated exponent. -/
theorem inv_read (i : Fin 1) : StableHlo.after hostOps1_4 σ (Proc.devRef .tc main_v43) (ix1 i)
    = twoTo (@Neg.neg (BitVec 32) _ (σ (Proc.devRef .tc main_v23) ix0)) := by
  entry_read
  pointwise [twoTo, word]

/-- The exponent, the five stretches' work up to it in one: that of the largest magnitude `a` of the first call's
    result and of `a` over the largest code. -/
theorem expo_read : StableHlo.after hostOps1_3 (StableHlo.after hostOps1_2 (StableHlo.after hostOps1_1
    (StableHlo.after hostOps1 σ))) (Proc.devRef .tc main_v23) ix0
      = expo (largestPart (σ (Proc.devRef .tc main_v2))) (largestPart (σ (Proc.devRef .tc main_v2)) * recip) := by
  rw [second_select, is_zero, zero_read2, first_kept, first_select, max_kept, max_read, none_read, zero_read, minus_read]
  unfold expo
  with_reducible rfl

/-! ## Between the second call and the third -/

/-- The factor of the third call is the scale of the activations times the scale of the gradients. -/
theorem factor_read (i : Fin 1) : StableHlo.after hostOps2 σ (Proc.devRef .tc main_v46) (ix1 i)
    = @HMul.hMul EReal EReal EReal _ (σ (Proc.devRef .tc main_arg1) ix0) (σ (Proc.devRef .tc main_v32) ix0) := by
  entry_read
  pointwise

/-! ## After the third -/

/-- The codes are given back in the gradients' own shape. -/
theorem codes_out : StableHlo.after hostOps3 σ (Proc.devRef .tc main_v48)
    = shapeCast S2x4096x4096 (σ (Proc.devRef .tc main_v44)) shapeCasts_S8192x4096_S2x4096x4096 := by
  entry_read
  rfl

end Cert.KernelIdeal.Value

end
-- ==== Proof.Magnitude.lean ====
/- The magnitude of an extended real, and a maximum of magnitudes described by its upper bounds. -/
module

public import Idealize.ShloMosaic.PureOps.Ideal
public import Mathlib.Data.Finset.Fold

@[expose] public section

noncomputable section

namespace Cert.Magnitude

open Idealize.ShloMosaic

/-- The absolute value of an extended real. -/
def mag (x : EReal) : EReal := max x (-x)

/-- A magnitude is not negative. -/
theorem mag_nonneg (x : EReal) : 0 ≤ mag x := by
  unfold mag
  rcases le_total 0 x with h | h
  · exact le_max_of_le_left h
  · exact le_max_of_le_right (EReal.neg_nonneg.mpr h)

/-- The kernel's absolute value is the magnitude. -/
theorem absf_mag (φ : FTy) (x : Ideal φ) : FloatOps.absf x = mag x := rfl

/-- The host's absolute value is the magnitude. -/
theorem hostAbsf_mag (φ : FTy) (x : Ideal φ) : FloatOps.hostAbsf x = mag x := rfl

end Cert.Magnitude

end
-- ==== Proof.Absmax.lean ====
/- The maximum region of the kernel: an 8×128 array of partial maxima of |gradient|, folded over sixteen blocks of 512 rows.
   A maximum is described by its upper bounds: it is `≤ b` exactly if everything folded in is `≤ b`. -/
module

public import proofs.«01_k».proof.Proof.Gen.KernelIdeal.Frame
public import proofs.«01_k».proof.Proof.Magnitude
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)
open Cert.Magnitude

-- the buffers' contents when the region is entered
variable (V : (c : Dev nD) → (b : Ref sig .tc) → Buf (Elt Ideal) ((c : Thread nD τ).loc b))

/-- The block indices of the region's windows, at every point. -/
theorem idx0 : ∀ t : Fin cfg0.N, win0_0.index t = ![t.val, 0] ∧ win0_1.index t = ![0, 0] :=
  (by decide +kernel : ∀ t : Fin grid0.N, _)

/-- The start of the reductions in bfloat16 is the least extended real. -/
theorem ninf_bf16 : Ideal.ofBits .bf16 0xFF80#16 = ⊥ := by simp [Ideal.ofBits, Ideal.ieee]

/-- The rows `16 p + j` and `16 p + 8 + j` with the columns `128 g + l` are the rows and columns congruent to `j`, `l`. -/
theorem split_rows (Q : Fin 512 → Fin 4096 → Prop) (j0 : Fin 8) (j1 : Fin 128) (h1 : ∀ p : Fin 32, p.val * 16 + j0.val < 512)
    (h2 : ∀ p : Fin 32, p.val * 16 + (8 + j0.val) < 512) (h3 : ∀ g : Fin 32, g.val * 128 + j1.val < 4096) :
    ((∀ g p : Fin 32, Q ⟨p.val * 16 + j0.val, h1 p⟩ ⟨g.val * 128 + j1.val, h3 g⟩)
      ∧ ∀ g p : Fin 32, Q ⟨p.val * 16 + (8 + j0.val), h2 p⟩ ⟨g.val * 128 + j1.val, h3 g⟩)
    ↔ ∀ (r : Fin 512) (l : Fin 4096), r.val % 8 = j0.val → l.val % 128 = j1.val → Q r l := by
  constructor
  · intro h r l hr hl
    have hr5 := r.isLt
    have hl5 := l.isLt
    have el : (⟨l.val / 128 * 128 + j1.val, h3 ⟨l.val / 128, by omega⟩⟩ : Fin 4096) = l := Fin.ext (by dsimp only; omega)
    by_cases h8 : r.val % 16 < 8
    · have er : (⟨r.val / 16 * 16 + j0.val, h1 ⟨r.val / 16, by omega⟩⟩ : Fin 512) = r := Fin.ext (by dsimp only; omega)
      have := h.1 ⟨l.val / 128, by omega⟩ ⟨r.val / 16, by omega⟩
      dsimp only at this
      rwa [er, el] at this
    · have er : (⟨r.val / 16 * 16 + (8 + j0.val), h2 ⟨r.val / 16, by omega⟩⟩ : Fin 512) = r := Fin.ext (by dsimp only; omega)
      have := h.2 ⟨l.val / 128, by omega⟩ ⟨r.val / 16, by omega⟩
      dsimp only at this
      rwa [er, el] at this
  · intro h
    exact ⟨fun g p => h _ _ (by dsimp only; omega) (by dsimp only; omega),
      fun g p => h _ _ (by dsimp only; omega) (by dsimp only; omega)⟩

/-- The body's stored value, as nested maxima over its block. -/
theorem pay0_at (D : FVec Ideal S512x4096 .bf16) (P : FVec Ideal S8x128 .f32) (j0 : Fin 8) (j1 : Fin 128) :
    k0_pay2 (F := Ideal) D P (ix2 j0 j1) = max (P (ix2 j0 j1)) (max
      (Finset.univ.fold max ⊥ fun g : Fin 32 => Finset.univ.fold max ⊥ fun p : Fin 32 =>
        mag (D (ix2 ⟨p.val * 16 + j0.val, by omega⟩ ⟨g.val * 128 + j1.val, by omega⟩)))
      (Finset.univ.fold max ⊥ fun g : Fin 32 => Finset.univ.fold max ⊥ fun p : Fin 32 =>
        mag (D (ix2 ⟨p.val * 16 + (8 + j0.val), by omega⟩ ⟨g.val * 128 + j1.val, by omega⟩)))) := by
  rw [← ninf_bf16]
  pointwise [k0_pay2]
  rfl

/-- The body's stored value is bounded by `b` exactly if what it loaded of the output is and every element of the block's
    rows and columns congruent to the output's index is, in absolute value. -/
theorem pay0_le (D : FVec Ideal S512x4096 .bf16) (P : FVec Ideal S8x128 .f32) (j0 : Fin 8) (j1 : Fin 128) (b : EReal) :
    k0_pay2 (F := Ideal) D P (ix2 j0 j1) ≤ b ↔ P (ix2 j0 j1) ≤ b ∧ ∀ (r : Fin 512) (l : Fin 4096),
      r.val % 8 = j0.val → l.val % 128 = j1.val → mag (D (ix2 r l)) ≤ b := by
  rw [pay0_at, max_le_iff, max_le_iff]
  simp only [Finset.fold_max_le, bot_le, true_and, Finset.mem_univ, forall_true_left]
  exact and_congr Iff.rfl (split_rows (fun r l => mag (D (ix2 r l)) ≤ b) j0 j1 (fun p => by omega) (fun p => by omega) (fun g => by omega))

/-- The block that the first point starts from is zero. -/
theorem pay0_zero (j : S8x128.Idx) : k0_pay1 (F := Ideal) j = 0 := by pointwise [k0_pay1]

/-- The output's buffer after the first point: the body's value from a zero block. -/
theorem outs0_A (c : Dev nD) (t : Fin cfg0.N) (h : t.val % 16 = 0) :
    outsAt0 V c t.val t.isLt = k0_pay2 (iblk0 V c 0 t) (k0_pay1 (F := Ideal)) := by
  rw [outsAt0_A V c t h]; frame_out

/-- The output's buffer after any later point: the body's value from what the point before left. -/
theorem outs0_B (c : Dev nD) (t : Fin cfg0.N) (h : ¬ t.val % 16 = 0) :
    outsAt0 V c t.val t.isLt
      = k0_pay2 (iblk0 V c 0 t) (outsAt0 V c (t.val - 1) (Nat.lt_of_le_of_lt (Nat.sub_le _ _) t.isLt)) := by
  rw [outsAt0_B V c t h]; frame_out

/-- The array of partial maxima after the region: the output's buffer after the last point. -/
theorem part_final (c : Dev nD) : (dat0 V c).arrAt 1 cfg0.N = outsAt0 V c t0_15.val t0_15.isLt := by
  refine (dat0 V c).arrAt_eq_of_after_last 1 t0_15 (by decide +kernel) _ fun j => ?_
  blk_simp
  rw [after0_1]

/-- Point `t`'s input block is rows `512 t … 512 t + 511` of the gradient. -/
theorem blk0_at (c : Dev nD) (D : FVec Ideal S8192x4096 .bf16) (hD : V c main_v1 = D) (t : Fin cfg0.N) (r : Fin 512) (l : Fin 4096)
    (i : Fin 8192) (hi : i.val = t.val * 512 + r.val) :
    (iblk0 V c 0 t : FVec Ideal S512x4096 .bf16) (ix2 r l) = D (ix2 i l) := by
  rw [← hD]
  blk_ext [iblk0, idx0 t]

/-- After point `n` the output's buffer is bounded by `b` exactly if `0` is and every element of the first `512 (n + 1)`
    rows, at the rows and columns congruent to the output's index, is in absolute value. -/
theorem outs0_le (c : Dev nD) (D : FVec Ideal S8192x4096 .bf16) (hD : V c main_v1 = D) (j0 : Fin 8) (j1 : Fin 128) (b : EReal) :
    ∀ (n : ℕ) (hn : n < cfg0.N),
    (outsAt0 V c n hn : FVec Ideal S8x128 .f32) (ix2 j0 j1) ≤ b ↔ 0 ≤ b ∧ ∀ (i : Fin 8192) (l : Fin 4096),
      i.val < n * 512 + 512 → i.val % 8 = j0.val → l.val % 128 = j1.val → mag (D (ix2 i l)) ≤ b
  | 0, hn => by
    rw [show outsAt0 V c 0 hn = k0_pay2 (iblk0 V c 0 ⟨0, hn⟩) (k0_pay1 (F := Ideal)) from outs0_A V c ⟨0, hn⟩ rfl, pay0_le, pay0_zero]
    refine and_congr Iff.rfl ⟨fun h i l hi hr hl => ?_, fun h r l hr hl => ?_⟩
    · have := h ⟨i.val, by omega⟩ l hr hl
      rwa [blk0_at V c D hD ⟨0, hn⟩ ⟨i.val, by omega⟩ l i (by dsimp only; omega)] at this
    · have hr5 := r.isLt
      rw [blk0_at V c D hD ⟨0, hn⟩ r l ⟨r.val, by omega⟩ (by dsimp only; omega)]
      exact h _ l (by dsimp only; omega) hr hl
  | n + 1, hn => by
    have hN : cfg0.N = 16 := N_0
    have hn' : n < cfg0.N := by omega
    rw [show outsAt0 V c (n + 1) hn = k0_pay2 (iblk0 V c 0 ⟨n + 1, hn⟩) (outsAt0 V c n hn')
      from outs0_B V c ⟨n + 1, hn⟩ (by dsimp only; omega), pay0_le, outs0_le c D hD j0 j1 b n hn', and_assoc]
    refine and_congr Iff.rfl ⟨fun h => ?_, fun h => ⟨?_, ?_⟩⟩
    · intro i l hi hr hl
      by_cases hlt : i.val < n * 512 + 512
      · exact h.1 i l hlt hr hl
      · have hi5 : i.val - (n * 512 + 512) < 512 := by omega
        have := h.2 ⟨i.val - (n * 512 + 512), hi5⟩ l (by dsimp only; omega) hl
        rwa [blk0_at V c D hD ⟨n + 1, hn⟩ ⟨i.val - (n * 512 + 512), hi5⟩ l i (by dsimp only; omega)] at this
    · intro i l hi hr hl
      have hi' : i.val < (n + 1) * 512 + 512 := by omega
      exact h i l hi' hr hl
    · intro r l hr hl
      have hr5 := r.isLt
      have hi5 : n * 512 + 512 + r.val < 8192 := by omega
      rw [blk0_at V c D hD ⟨n + 1, hn⟩ r l ⟨n * 512 + 512 + r.val, hi5⟩ (by dsimp only; omega)]
      have hi' : n * 512 + 512 + r.val < (n + 1) * 512 + 512 := by omega
      have hr' : (n * 512 + 512 + r.val) % 8 = j0.val := by omega
      exact h ⟨n * 512 + 512 + r.val, hi5⟩ l hi' hr' hl

/-- All the partial maxima are bounded by `b` exactly if `0` is and every element of the gradient is in absolute value. -/
theorem part_le (c : Dev nD) (D : FVec Ideal S8192x4096 .bf16) (hD : V c main_v1 = D) (P : FVec Ideal S8x128 .f32)
    (hP : (dat0 V c).arrAt 1 cfg0.N = P) (b : EReal) :
    (∀ (j0 : Fin 8) (j1 : Fin 128), P (ix2 j0 j1) ≤ b)
    ↔ 0 ≤ b ∧ ∀ (i : Fin 8192) (l : Fin 4096), mag (D (ix2 i l)) ≤ b := by
  have key : ∀ (j0 : Fin 8) (j1 : Fin 128), P (ix2 j0 j1) ≤ b
      ↔ 0 ≤ b ∧ ∀ (i : Fin 8192) (l : Fin 4096),
        i.val < t0_15.val * 512 + 512 → i.val % 8 = j0.val → l.val % 128 = j1.val → mag (D (ix2 i l)) ≤ b := fun j0 j1 => by
    rw [← hP, part_final V c]
    exact outs0_le V c D hD j0 j1 b t0_15.val t0_15.isLt
  simp only [key]
  refine ⟨fun h => ⟨(h 0 0).1, fun i l => ?_⟩, fun h j0 j1 => ⟨h.1, fun i l _ _ _ => h.2 i l⟩⟩
  have hi := i.isLt
  exact (h ⟨i.val % 8, by omega⟩ ⟨l.val % 128, by omega⟩).2 i l (by show i.val < 15 * 512 + 512; omega) rfl rfl

end Cert.KernelIdeal.Value

end
-- ==== Proof.Quant.lean ====
/- The quantisation region of the kernel: the array of codes after its run, as one function of the gradient's array and of
   the inverse scale. Sixteen blocks of 512 rows, each written whole at its own point. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

-- the buffers' contents when the region is entered
variable (V : (c : Dev nD) → (b : Ref sig .tc) → Buf (Elt Ideal) ((c : Thread nD τ).loc b))

/-- The codes of a gradient `D` under an inverse scale `r`: each element times `r`, clipped to ±57344 (the cast to
    float8 is the identity over the extended reals). -/
def codesOf (D : FVec Ideal S8192x4096 .bf16) (r : FVec Ideal S1 .f32) : FVec Ideal S8192x4096 .fp8e5m2 := fun i =>
  min (Ideal.ofBits .f32 0x47600000#32) (max (Ideal.ofBits .f32 0xC7600000#32) (D i * r (ix1 0)))

/-- The block indices of the region's windows, at every point. -/
theorem idx1 : ∀ t : Fin cfg1.N, win1_0.index t = ![0] ∧ win1_1.index t = ![t.val, 0] ∧ win1_2.index t = ![t.val, 0] :=
  (by decide +kernel : ∀ t : Fin grid1.N, _)

/-- The array of codes after the region. -/
theorem codes_final (c : Dev nD) : (dat1 V c).arrAt 2 cfg1.N
    = codesOf (V c main_v1) (V c main_v43) := by
  refine (dat1 V c).arrAt_eq_of_covers 2 _ (by decide +kernel) fun t _ y => ?_
  blk_simp
  rw [after1_2]; unfold outsAt1; frame_out
  pointwise [k1_pay1, codesOf]
  blk_point [iblk1, idx1 t]

end Cert.KernelIdeal.Value

end
-- ==== Proof.Wgrad.lean ====
/- The weight-gradient region of the kernel: the result array after its run, as one function of the activations' codes, the
   gradient's codes, the accumulator and the combined scale. Thirty-two blocks of 256 rows, each written whole at its own
   point; the contraction over all 8192 tokens is done at once in every block. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

-- the buffers' contents when the region is entered
variable (V : (c : Dev nD) → (b : Ref sig .tc) → Buf (Elt Ideal) ((c : Thread nD τ).loc b))

/-- The new weight gradient: the accumulator plus (activations' codes)ᵀ · (gradient's codes), times the combined scale. -/
def dwOf (X : FVec Ideal S8192x8192 .fp8e4m3) (Q : FVec Ideal S8192x4096 .fp8e5m2) (A : FVec Ideal S8192x4096 .f32)
    (s : FVec Ideal S1 .f32) : FVec Ideal S8192x4096 .f32 := fun i =>
  A i + (∑ k : Fin 8192, X (ix2 k (i 0)) * Q (ix2 k (i 1))) * s (ix1 0)

/-- The block indices of the region's windows, at every point. -/
theorem idx2 : ∀ t : Fin cfg2.N, win2_0.index t = ![0] ∧ win2_1.index t = ![0, t.val] ∧ win2_2.index t = ![0, 0]
    ∧ win2_3.index t = ![t.val, 0] ∧ win2_4.index t = ![t.val, 0] :=
  (by decide +kernel : ∀ t : Fin grid2.N, _)

/-- The result array after the region. -/
theorem dw_final (c : Dev nD) : (dat2 V c).arrAt 4 cfg2.N
    = dwOf (V c main_v0) (V c main_v44) (V c main_arg3) (V c main_v46) := by
  refine (dat2 V c).arrAt_eq_of_covers 4 _ (by decide +kernel) fun t _ y => ?_
  blk_simp
  rw [after2_4]; unfold outsAt2; frame_out
  pointwise [k2_pay1, dwOf]
  blk_point [iblk2, idx2 t]

end Cert.KernelIdeal.Value

end
-- ==== Proof.ReduceMax.lean ====
/- The host's maximum over a whole array, described by its upper bounds; and a property of every element of an array,
   carried over a reshape. -/
module

public import proofs.«01_k».proof.Proof.Magnitude
public import Idealize.ShloMosaic.Lib.Pipeline.ValueKit

@[expose] public section

noncomputable section

namespace Cert.Magnitude

open Idealize.ShloMosaic

/-- The upper bounds of the host's maximum over every element of `x`: those of the initial value and of all elements. -/
theorem reduceMax_le {s t u : Shape} {axes : List (Fin s.rank)} (x : s.Idx → EReal) (init : u.Idx → EReal)
    (h : s.ReducesTo axes t) (hu : 0 < u.numel) (j : t.Idx) (hj : ∀ k : t.Idx, k = j) (b : EReal) :
    Host.reduce (FloatOps.maximumf (F := Ideal) (φ := .f32)) x init h hu j ≤ b
      ↔ init (Shape.Idx.first hu) ≤ b ∧ ∀ i, x i ≤ b := by
  have hm : (FloatOps.maximumf (F := Ideal) (φ := .f32)) = (max : EReal → EReal → EReal) := rfl
  rw [hm, Host.reduce_eq_fold, Finset.fold_max_le]
  simp only [Finset.mem_filter, Finset.mem_univ, true_and]
  exact ⟨fun h' => ⟨h'.1, fun i => h'.2 i (hj _)⟩, fun h' => ⟨h'.1, fun i _ => h'.2 i⟩⟩

/-- A reshape keeps the elements: what holds of all of one array's elements holds of all of the other's. -/
theorem forall_shapeCast {α : Type} {s t : Shape} (v : s.Idx → α) (h : s.ShapeCasts t) (Q : α → Prop) :
    (∀ i, Q (shapeCast t v h i)) ↔ ∀ i, Q (v i) := by
  constructor
  · intro H i
    have := H ((Shape.reshapeEquiv h).symm i)
    simpa [shapeCast] using this
  · intro H i
    exact H _

end Cert.Magnitude

end
-- ==== Proof.KernelValue.lean ====
/- What the kernel's program leaves in its three results, as functions of its arguments: the contents of its buffers,
   followed from one boundary between host code and pallas_call to the next. -/
module

public import proofs.«01_k».proof.Proof.KernelHost
public import proofs.«01_k».proof.Proof.Absmax
public import proofs.«01_k».proof.Proof.Quant
public import proofs.«01_k».proof.Proof.Wgrad
public import proofs.«01_k».proof.Proof.ReduceMax

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

open Cert.Scale Cert.Magnitude

variable (m : (ℓ : Loc nD τ sig) → Buf (Elt Ideal) ℓ) (ρ : Dev nD → PrngReg)

/-- The activations, the two leading axes in one. -/
def xFlat (c : Dev nD) : FVec Ideal S8192x8192 .fp8e4m3 :=
  shapeCast S8192x8192 (m ((c : Thread nD τ).loc main_arg0)) shapeCasts_S2x4096x8192_S8192x8192

/-- The gradients, the two leading axes in one. -/
def dyFlat (c : Dev nD) : FVec Ideal S8192x4096 .bf16 :=
  shapeCast S8192x4096 (m ((c : Thread nD τ).loc main_arg2)) shapeCasts_S2x4096x4096_S8192x4096

/-- The largest magnitude of the gradients as the kernel finds it: the maximum over what its first call leaves. -/
def kernelMax (c : Dev nD) : EReal := largestPart ((dat0 (V1 m ρ) c).arrAt 1 cfg0.N)

/-- The kernel's exponent of the scale. -/
def kernelExpo (c : Dev nD) : BitVec 32 := expo (kernelMax m ρ c) (kernelMax m ρ c * recip)

/-! ## The flat operands, kept to where they are read -/

/-- At the first call the flat activations are in place -/
theorem W1_x (c : Dev nD) : W1 m ρ c (Proc.devRef .tc main_v0) = xFlat m c := x_flat (W0 m ρ c)

/-- and so are the flat gradients. -/
theorem W1_dy (c : Dev nD) : W1 m ρ c (Proc.devRef .tc main_v1) = dyFlat m c := dy_flat (W0 m ρ c)

/-- What neither the first call nor the host code of the scale writes is at the second call as it was at the first. -/
theorem W7_keep (c : Dev nD) (r : Ref sig .tc) (h2 : ∀ w : Fin cfg0.W, Pipeline.arrRef spec0 w = r → (cfg0.win w).isOut = false)
    (h3 : r ∉ hostOps1_W) (h4 : r ∉ hostOps1_1_W) (h5 : r ∉ hostOps1_2_W) (h6 : r ∉ hostOps1_3_W) (h7 : r ∉ hostOps1_4_W) :
    W7 m ρ c (Proc.devRef .tc r) = W1 m ρ c (Proc.devRef .tc r) :=
  (W7_of m ρ c r h7).trans ((W6_of m ρ c r h6).trans ((W5_of m ρ c r h5).trans ((W4_of m ρ c r h4).trans
    ((W3_of m ρ c r h3).trans (W2_of m ρ c r h2)))))

/-- The second call finds the flat gradients, -/
theorem W7_dy (c : Dev nD) : W7 m ρ c (Proc.devRef .tc main_v1) = dyFlat m c :=
  (W7_keep m ρ c main_v1 (by decide) (by decide) (by decide) (by decide) (by decide) (by decide)).trans (W1_dy m ρ c)

/-- and the third the flat activations. -/
theorem W9_x (c : Dev nD) : W9 m ρ c (Proc.devRef .tc main_v0) = xFlat m c :=
  (W9_of m ρ c main_v0 (by decide)).trans ((W8_of m ρ c main_v0 (by decide)).trans
    ((W7_keep m ρ c main_v0 (by decide) (by decide) (by decide) (by decide) (by decide) (by decide)).trans (W1_x m ρ c)))

/-! ## The scale -/

/-- After the first call its array of partial maxima is in place. -/
theorem W2_part (c : Dev nD) : W2 m ρ c (Proc.devRef .tc main_v2) = (dat0 (V1 m ρ) c).arrAt 1 cfg0.N := W2_arr m ρ c 1

/-- The exponent, before the scale is made of it. -/
theorem W6_expo (c : Dev nD) : W6 m ρ c (Proc.devRef .tc main_v23) ix0 = kernelExpo m ρ c := by
  have h := expo_read (W2 m ρ c)
  rw [W2_part] at h
  exact h

/-- The scale is `2` to the exponent, -/
theorem W7_scale (c : Dev nD) : W7 m ρ c (Proc.devRef .tc main_v32) ix0 = twoTo (kernelExpo m ρ c) := by
  have h := scale_read (W6 m ρ c)
  rw [W6_expo] at h
  exact h

/-- and the inverse `2` to the negated exponent. -/
theorem W7_inv (c : Dev nD) : W7 m ρ c (Proc.devRef .tc main_v43) (ix1 0) = twoTo (-kernelExpo m ρ c) := by
  have h := inv_read (W6 m ρ c) 0
  rw [W6_expo] at h
  exact h

/-- The second call leaves the scale alone. -/
theorem W8_scale (c : Dev nD) : W8 m ρ c (Proc.devRef .tc main_v32) ix0 = twoTo (kernelExpo m ρ c) := by
  rw [W8_of m ρ c main_v32 (by decide)]
  exact W7_scale m ρ c

/-! ## The codes -/

/-- The codes of the gradients `D` at the inverse scale `r`: each gradient times `r`, clipped to the largest code. -/
def codesAt (D : FVec Ideal S8192x4096 .bf16) (r : EReal) : FVec Ideal S8192x4096 .fp8e5m2 :=
  fun i => min (Ideal.ofBits .f32 0x47600000#32) (max (Ideal.ofBits .f32 0xC7600000#32) (D i * r))

/-- The second call leaves the codes in its array, -/
theorem W8_codes (c : Dev nD) : W8 m ρ c (Proc.devRef .tc main_v44) = codesAt (dyFlat m c) (twoTo (-kernelExpo m ρ c)) := by
  have h : W8 m ρ c (Proc.devRef .tc main_v44) = codesOf (W7 m ρ c (Proc.devRef .tc main_v1)) (W7 m ρ c (Proc.devRef .tc main_v43)) :=
    (W8_arr m ρ c 2).trans (codes_final (V7 m ρ) c)
  rw [h, W7_dy]
  unfold codesOf codesAt
  rw [W7_inv]

/-- where the third call finds them. -/
theorem W9_codes (c : Dev nD) : W9 m ρ c (Proc.devRef .tc main_v44) = codesAt (dyFlat m c) (twoTo (-kernelExpo m ρ c)) :=
  (W9_of m ρ c main_v44 (by decide)).trans (W8_codes m ρ c)

/-! ## The weight gradient -/

/-- The weight gradient: the accumulator plus the product of the transposed activations and the codes, times the factor. -/
def dwAt (X : FVec Ideal S8192x8192 .fp8e4m3) (Q : FVec Ideal S8192x4096 .fp8e5m2) (A : FVec Ideal S8192x4096 .f32) (s : EReal) :
    FVec Ideal S8192x4096 .f32 :=
  fun i => A i + (∑ k : Fin 8192, X (ix2 k (i 0)) * Q (ix2 k (i 1))) * s

/-- The factor: the scale of the activations times the scale of the gradients. -/
def factorOf (a1 : FVec Ideal S_ .f32) (s : EReal) : EReal := a1 ix0 * s

/-- The third call finds the factor. -/
theorem W9_factor (c : Dev nD) : W9 m ρ c (Proc.devRef .tc main_v46) (ix1 0)
    = factorOf (m ((c : Thread nD τ).loc main_arg1)) (twoTo (kernelExpo m ρ c)) := by
  have h := factor_read (W8 m ρ c) 0
  rw [W8_scale, W8_args m ρ c main_arg1 (by decide)] at h
  exact h

/-- The third call leaves the weight gradient in its array. -/
theorem W10_dw (c : Dev nD) : W10 m ρ c (Proc.devRef .tc main_v47)
    = dwAt (xFlat m c) (codesAt (dyFlat m c) (twoTo (-kernelExpo m ρ c))) (m ((c : Thread nD τ).loc main_arg3))
        (factorOf (m ((c : Thread nD τ).loc main_arg1)) (twoTo (kernelExpo m ρ c))) := by
  have h : W10 m ρ c (Proc.devRef .tc main_v47) = dwOf (W9 m ρ c (Proc.devRef .tc main_v0)) (W9 m ρ c (Proc.devRef .tc main_v44))
      (W9 m ρ c (Proc.devRef .tc main_arg3)) (W9 m ρ c (Proc.devRef .tc main_v46)) :=
    (W10_arr m ρ c 4).trans (dw_final (V9 m ρ) c)
  rw [h, W9_x, W9_codes, W9_args m ρ c main_arg3 (by decide)]
  unfold dwOf dwAt
  rw [W9_factor]

/-! ## The results -/

/-- The first result is the weight gradient, -/
theorem W11_dw (c : Dev nD) : W11 m ρ c (Proc.devRef .tc main_v47)
    = dwAt (xFlat m c) (codesAt (dyFlat m c) (twoTo (-kernelExpo m ρ c))) (m ((c : Thread nD τ).loc main_arg3))
        (factorOf (m ((c : Thread nD τ).loc main_arg1)) (twoTo (kernelExpo m ρ c))) :=
  (W11_of m ρ c main_v47 (by decide)).trans (W10_dw m ρ c)

/-- the second the codes under the gradients' own shape, -/
theorem W11_codes (c : Dev nD) : W11 m ρ c (Proc.devRef .tc main_v48)
    = shapeCast S2x4096x4096 (codesAt (dyFlat m c) (twoTo (-kernelExpo m ρ c))) shapeCasts_S8192x4096_S2x4096x4096 := by
  have h := codes_out (W10 m ρ c)
  rw [W10_of m ρ c main_v44 (by decide), W9_codes] at h
  exact h

/-- and the third the scale. -/
theorem W11_scale (c : Dev nD) : W11 m ρ c (Proc.devRef .tc main_v32) = fun _ => twoTo (kernelExpo m ρ c) := by
  funext i
  rw [W11_of m ρ c main_v32 (by decide), W10_of m ρ c main_v32 (by decide), W9_of m ρ c main_v32 (by decide)]
  rw [show i = ix0 from funext fun k => k.elim0]
  exact W8_scale m ρ c

/-! ## The largest magnitude -/

/-- The upper bounds of the kernel's largest magnitude: those, not negative, of the magnitudes of all gradients. -/
theorem kernelMax_le (c : Dev nD) (b : EReal) :
    kernelMax m ρ c ≤ b ↔ 0 ≤ b ∧ ∀ (i : Fin 8192) (l : Fin 4096), mag (dyFlat m c (ix2 i l)) ≤ b := by
  rw [← part_le (V1 m ρ) c (dyFlat m c) (W1_dy m ρ c) _ rfl b]
  unfold kernelMax largestPart
  rw [reduceMax_le _ _ _ _ _ (fun k => funext fun a => a.elim0)]
  constructor
  · intro h j0 j1
    exact h.2 (ix2 j0 j1)
  · intro h
    refine ⟨?_, fun i => ?_⟩
    · rw [show constant (F := Ideal) S_ .f32 4286578688#32 (Shape.Idx.first h_S_) = Ideal.ofBits .f32 4286578688#32 from rfl, ninf_word]
      exact bot_le
    · idx_vars i
      exact h _ _

end Cert.KernelIdeal.Value

end
-- ==== Proof.ReferenceHost.lean ====
/- What the reference's host code computes before its pallas_call: the scale of the largest magnitude, its inverse, and
   the operands as the call takes them. -/
module

public import proofs.«01_k».proof.Proof.Gen.ReferenceIdeal.Frame
public import proofs.«01_k».proof.Proof.Scale
public import Idealize.ShloMosaic.Lib.Claim
public import Idealize.ShloMosaic.Lib.Pipeline.ValueKit
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)

open Cert.Scale

/-! ## The table of powers -/

/-- Word `n` of the reference's table has exponent field `n + 1` and nothing else. -/
theorem lit0_eq : ∀ n : Fin 254, lit0 n = BitVec.ofNat 32 (n.val + 1) <<< 23 := by decide +kernel

/-- Entry `k` of the reference's table of powers of two is `2 ^ (k - 126)`. -/
theorem table_at (k : Fin 254) : Ideal.ofBits .f32 (lit0 (S254.rowMajor (ix1 k))) = pw k := by
  have hk := k.isLt
  have hv : (S254.rowMajor (ix1 k) : Fin 254) = k := Fin.ext (rowMajor_val1 _)
  rw [show lit0 (S254.rowMajor (ix1 k)) = lit0 k from congrArg lit0 hv, lit0_eq, ofBits_field (k.val + 1) (by omega) (by omega)]
  unfold pw
  congr 1
  push_cast
  omega

/-! ## One stretch of host code at a time -/

section Stretches
variable (σ : Valuation τ sig (Elt Ideal))

/-- The reference's largest magnitude of an array. -/
def largest (g : FVec Ideal S2x4096x4096 .bf16) : EReal :=
  Host.reduce (FloatOps.maximumf (F := Ideal) (φ := .f32)) (Host.absf (extf .f32 g bitsLt_bf16_f32))
    (constant (F := Ideal) S_ .f32 0xFF800000#32) reducesTo_S2x4096x4096_S_d0_1_2 h_S_ ix0

/-- A product with a constant, read at its only index. -/
theorem scaled_at (N : FVec Ideal S_ .f32) (b : BitVec 32) :
    mulf N (constant (F := Ideal) S_ .f32 b) ix0 = @HMul.hMul EReal EReal EReal _ (N ix0) (Ideal.ofBits .f32 b) := rfl

/-- The comparison of a table of words with such a product, read at an index. -/
theorem compared_at (T : Fin 254 → BitVec 32) (N : FVec Ideal S_ .f32) (b : BitVec 32) (k : Fin 254) :
    cmpf (F := Ideal) (φ := .f32) .ole (fun i => FloatOps.ofBits .f32 (T (S254.rowMajor i)))
      (broadcastInDim S254 ![] bcast_S_S254 (mulf N (constant (F := Ideal) S_ .f32 b))) (ix1 k)
      = atMost (Ideal.ofBits .f32 (T (S254.rowMajor (ix1 k)))) (@HMul.hMul EReal EReal EReal _ (N ix0) (Ideal.ofBits .f32 b)) := by
  pointwise [atMost]

/-- The number that the scale is made of: the largest magnitude times the reciprocal of the largest code. -/
theorem x_read : StableHlo.after hostOps0 σ (Proc.devRef .tc main_v3) ix0 = largest (σ (Proc.devRef .tc main_arg2)) * recip := by
  entry_read
  unfold largest recip
  exact scaled_at _ _

/-- The table holds the powers of two. -/
theorem table_read (k : Fin 254) : StableHlo.after hostOps0 σ (Proc.devRef .tc main_cst) (ix1 k) = pw k := by
  entry_read
  exact table_at k

/-- The flags of the powers that are at most the number. -/
theorem flag_read (k : Fin 254) : StableHlo.after hostOps0 σ (Proc.devRef .tc main_v5) (ix1 k)
    = atMost (pw k) (largest (σ (Proc.devRef .tc main_arg2)) * recip) := by
  entry_read
  unfold largest recip
  refine (compared_at lit0 _ _ k).trans ?_
  rw [table_at]

/-- The value that takes the place of the other powers is zero. -/
theorem zero_read : StableHlo.after hostOps0 σ (Proc.devRef .tc main_cst_2) ix0 = (0 : EReal) := by
  entry_read
  pointwise

/-- The choice, at each power, between it and zero. -/
theorem kept_read (k : Fin 254) : StableHlo.after hostOps0_1 σ (Proc.devRef .tc main_v6) (ix1 k)
    = (Scalar.select (σ (Proc.devRef .tc main_v5) (ix1 k)) (σ (Proc.devRef .tc main_cst) (ix1 k)) (σ (Proc.devRef .tc main_cst_2) ix0) : EReal) := by
  entry_read
  simp only [StableHlo.TRef.ofBuf_toBuf]
  simp -implicitDefEqProofs only [StableHlo.TRef.toBuf, StableHlo.TRef.ofBuf, cast_eq]
  pointwise

/-- That choice leaves the number alone. -/
theorem x_kept : StableHlo.after hostOps0_1 σ (Proc.devRef .tc main_v3) = σ (Proc.devRef .tc main_v3) := by
  entry_read
  rfl

/-- The scale where there is no power, or for an infinite number, is one. -/
theorem one_read : StableHlo.after hostOps0_2 σ (Proc.devRef .tc main_cst_7) ix0 = (1 : EReal) := by
  entry_read
  pointwise

/-- Twice the largest of the powers kept. -/
theorem twice_read : StableHlo.after hostOps0_2 σ (Proc.devRef .tc main_v11) ix0
    = Ideal.ofBits .f32 1073741824#32 *
      Finset.univ.fold max (Ideal.ofBits .f32 4286578688#32) (fun k : Fin 254 => (σ (Proc.devRef .tc main_v6) (ix1 k) : EReal)) := by
  entry_read
  pointwise

/-- The flag that the largest power kept is zero, or that the number is infinite. -/
theorem none_read : StableHlo.after hostOps0_2 σ (Proc.devRef .tc main_v10) ix0
    = IntOp.ori (isZero (Finset.univ.fold max (Ideal.ofBits .f32 4286578688#32) fun k : Fin 254 => (σ (Proc.devRef .tc main_v6) (ix1 k) : EReal)))
      (isInf (σ (Proc.devRef .tc main_v3) ix0)) := by
  entry_read
  pointwise [isZero, isInf]

/-- The choice between one and twice the largest power. -/
theorem scale_read : StableHlo.after hostOps0_3 σ (Proc.devRef .tc main_v12) ix0
    = (Scalar.select (σ (Proc.devRef .tc main_v10) ix0) (σ (Proc.devRef .tc main_cst_7) ix0) (σ (Proc.devRef .tc main_v11) ix0) : EReal) := by
  entry_read
  simp only [StableHlo.TRef.ofBuf_toBuf]
  simp -implicitDefEqProofs only [StableHlo.TRef.toBuf, StableHlo.TRef.ofBuf, cast_eq]
  pointwise

/-- The last stretch before the call leaves the scale alone. -/
theorem scale_kept : StableHlo.after hostOps0_4 σ (Proc.devRef .tc main_v12) = σ (Proc.devRef .tc main_v12) := by
  entry_read
  rfl

/-- The inverse, the one entry of an array: one divided by the scale. -/
theorem inv_read (i : Fin 1) : StableHlo.after hostOps0_4 σ (Proc.devRef .tc main_v14) (ix1 i)
    = Ideal.div 1 (σ (Proc.devRef .tc main_v12) ix0 : EReal) := by
  entry_read
  pointwise

/-- The factor, the one entry of an array: the scale of the activations times the scale of the gradients. -/
theorem factor_read (i : Fin 1) : StableHlo.after hostOps0_4 σ (Proc.devRef .tc main_v16) (ix1 i)
    = @HMul.hMul EReal EReal EReal _ (σ (Proc.devRef .tc main_arg1) ix0) (σ (Proc.devRef .tc main_v12) ix0) := by
  entry_read
  pointwise

/-- The activations go to the call with their two leading axes in one, -/
theorem x_operand : StableHlo.after hostOps0_4 σ (Proc.devRef .tc main_v17)
    = shapeCast S8192x8192 (σ (Proc.devRef .tc main_arg0)) shapeCasts_S2x4096x8192_S8192x8192 := by
  entry_read
  rfl

/-- and so do the gradients. -/
theorem dy_operand : StableHlo.after hostOps0_4 σ (Proc.devRef .tc main_v18)
    = shapeCast S8192x4096 (σ (Proc.devRef .tc main_arg2)) shapeCasts_S2x4096x4096_S8192x4096 := by
  entry_read
  rfl

/-- The stretches before the last leave three arguments alone. -/
theorem arg_kept (σ : Valuation τ sig (Elt Ideal)) : StableHlo.after hostOps0_3 (StableHlo.after hostOps0_2
    (StableHlo.after hostOps0_1 (StableHlo.after hostOps0 σ))) (Proc.devRef .tc main_arg0) = σ (Proc.devRef .tc main_arg0)
  ∧ StableHlo.after hostOps0_3 (StableHlo.after hostOps0_2
    (StableHlo.after hostOps0_1 (StableHlo.after hostOps0 σ))) (Proc.devRef .tc main_arg1) = σ (Proc.devRef .tc main_arg1)
  ∧ StableHlo.after hostOps0_3 (StableHlo.after hostOps0_2
    (StableHlo.after hostOps0_1 (StableHlo.after hostOps0 σ))) (Proc.devRef .tc main_arg2) = σ (Proc.devRef .tc main_arg2) := by
  refine ⟨?_, ?_, ?_⟩ <;> (entry_read; rfl)

end Stretches

/-! ## What the pallas_call finds -/

variable (m : (ℓ : Loc nD τ sig) → Buf (Elt Ideal) ℓ)

/-- What the call finds is what the five stretches of host code leave, one after the other. -/
theorem V0_eq (c : Dev nD) : V0 m c = StableHlo.after hostOps0_4 (StableHlo.after hostOps0_3 (StableHlo.after hostOps0_2
    (StableHlo.after hostOps0_1 (StableHlo.after hostOps0 (fun b => m (c, b)))))) := by
  unfold V0
  simp only [List.flatten_cons, List.flatten_nil, List.append_nil, StableHlo.after_append]

/-- The powers that the reference keeps, those at most `x`, with zero at the others. -/
theorem kept_all (σ : Valuation τ sig (Elt Ideal)) :
    (fun k : Fin 254 => (StableHlo.after hostOps0_1 (StableHlo.after hostOps0 σ) (Proc.devRef .tc main_v6) (ix1 k) : EReal))
      = fun k => Scalar.select (atMost (pw k) (largest (σ (Proc.devRef .tc main_arg2)) * recip)) (pw k) 0 :=
  funext fun k => by rw [kept_read, flag_read, table_read, zero_read]

/-- The scale before the last stretch is the scale of the largest magnitude. -/
theorem scale_pre (σ : Valuation τ sig (Elt Ideal)) : StableHlo.after hostOps0_3 (StableHlo.after hostOps0_2
    (StableHlo.after hostOps0_1 (StableHlo.after hostOps0 σ))) (Proc.devRef .tc main_v12) ix0
      = refScale pw (largest (σ (Proc.devRef .tc main_arg2)) * recip) := by
  rw [scale_read, none_read, one_read, twice_read, x_kept, x_read]
  rw [kept_all]
  unfold refScale below
  with_reducible rfl

/-- The scale is the scale of the largest magnitude. -/
theorem scale_val (c : Dev nD) : V m c main_v12 ix0
    = refScale pw (largest (m ((c : Thread nD τ).loc main_arg2)) * recip) := by
  show V0 m c (Proc.devRef .tc main_v12) ix0 = _
  rw [V0_eq, scale_kept, scale_pre]

/-- The inverse is one divided by the scale. -/
theorem inv_val (c : Dev nD) (i : Fin 1) : V m c main_v14 (ix1 i)
    = Ideal.div 1 (refScale pw (largest (m ((c : Thread nD τ).loc main_arg2)) * recip)) := by
  show V0 m c (Proc.devRef .tc main_v14) (ix1 i) = _
  rw [V0_eq, inv_read, scale_pre]

/-- The factor of the product is the scale of `x` times the scale of `dy`. -/
theorem factor_val (c : Dev nD) (i : Fin 1) : V m c main_v16 (ix1 i)
    = @HMul.hMul EReal EReal EReal _ (m ((c : Thread nD τ).loc main_arg1) ix0) (refScale pw (largest (m ((c : Thread nD τ).loc main_arg2)) * recip)) := by
  show V0 m c (Proc.devRef .tc main_v16) (ix1 i) = _
  rw [V0_eq, factor_read, scale_pre, (arg_kept _).2.1]

/-- The call finds the flat activations -/
theorem x_val (c : Dev nD) : V m c main_v17
    = shapeCast S8192x8192 (m ((c : Thread nD τ).loc main_arg0)) shapeCasts_S2x4096x8192_S8192x8192 := by
  show V0 m c (Proc.devRef .tc main_v17) = _
  rw [V0_eq, x_operand, (arg_kept _).1]

/-- and the flat gradients. -/
theorem dy_val (c : Dev nD) : V m c main_v18
    = shapeCast S8192x4096 (m ((c : Thread nD τ).loc main_arg2)) shapeCasts_S2x4096x4096_S8192x4096 := by
  show V0 m c (Proc.devRef .tc main_v18) = _
  rw [V0_eq, dy_operand, (arg_kept _).2.2]

end Cert.ReferenceIdeal.Value

end
-- ==== Proof.ReferenceCall.lean ====
/- What the reference's pallas_call leaves in its two arrays. Its grid has one point and its blocks are the whole
   arrays. -/
module

public import proofs.«01_k».proof.Proof.ReferenceHost
public import proofs.«01_k».proof.Proof.ReduceMax
public import Idealize.ShloMosaic.Lib.Pipeline.ReadBack

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)

open Cert.Scale Cert.Magnitude

/-! ## What the body computes -/

/-- The codes: each gradient times the inverse scale `r`, clipped to the largest code. -/
def codesAt (D : FVec Ideal S8192x4096 .bf16) (r : EReal) : FVec Ideal S8192x4096 .fp8e5m2 :=
  fun i => min (Ideal.ofBits .f32 0x47600000#32) (max (Ideal.ofBits .f32 0xC7600000#32) (D i * r))

/-- The weight gradient: the accumulator plus the product of the transposed activations and the codes, times the factor. -/
def dwAt (X : FVec Ideal S8192x8192 .fp8e4m3) (Q : FVec Ideal S8192x4096 .fp8e5m2) (A : FVec Ideal S8192x4096 .f32) (s : EReal) :
    FVec Ideal S8192x4096 .f32 :=
  fun i => A i + (∑ k : Fin 8192, X (ix2 k (i 0)) * Q (ix2 k (i 1))) * s

/-- The first value that the body stores is the codes. -/
theorem pay_codes (D : FVec Ideal S8192x4096 .bf16) (r : Ideal .f32) : k0_pay1 (F := Ideal) D r = codesAt D r := by
  funext i
  pointwise [k0_pay1, codesAt]

/-- The second is the weight gradient. -/
theorem pay_dw (X : FVec Ideal S8192x8192 .fp8e4m3) (D : FVec Ideal S8192x4096 .bf16) (A : FVec Ideal S8192x4096 .f32)
    (r s : Ideal .f32) : k0_pay2 (F := Ideal) D r X A s = dwAt X (codesAt D r) A s := by
  rw [← pay_codes]
  funext i
  unfold k0_pay2
  generalize k0_pay1 (F := Ideal) D r = Q
  pointwise [dwAt]

/-! ## The blocks are the whole arrays -/

variable (m : (ℓ : Loc nD τ sig) → Buf (Elt Ideal) ℓ)

/-- The activations. -/
theorem block_x (c : Dev nD) : iblk m c 2 t0_0 = V m c main_v17 := by
  funext y
  have h0 : win0_2.index t0_0 0 = 0 := by decide +kernel
  have h1 : win0_2.index t0_0 1 = 0 := by decide +kernel
  unfold iblk
  generalize V m c = G
  show G main_v17 _ = G main_v17 _
  blk_point [h0, h1]

/-- The gradients. -/
theorem block_dy (c : Dev nD) : iblk m c 3 t0_0 = V m c main_v18 := by
  funext y
  have h0 : win0_3.index t0_0 0 = 0 := by decide +kernel
  have h1 : win0_3.index t0_0 1 = 0 := by decide +kernel
  unfold iblk
  generalize V m c = G
  show G main_v18 _ = G main_v18 _
  blk_point [h0, h1]

/-- The accumulator. -/
theorem block_acc (c : Dev nD) : iblk m c 4 t0_0 = V m c main_arg3 := by
  funext y
  have h0 : win0_4.index t0_0 0 = 0 := by decide +kernel
  have h1 : win0_4.index t0_0 1 = 0 := by decide +kernel
  unfold iblk
  generalize V m c = G
  show G main_arg3 _ = G main_arg3 _
  blk_point [h0, h1]

/-- The inverse scale: the array has one entry, so any two of its indices are equal. -/
theorem block_inv (c : Dev nD) : iblk m c 0 t0_0 = V m c main_v14 := by
  have hs : ∀ a b : S1.Idx, a = b := fun a b => funext fun k => by
    fin_cases k
    exact Subsingleton.elim (α := Fin 1) _ _
  funext y
  unfold iblk
  generalize V m c = G
  rw [View.read_apply, cast_eq]
  have h := hs (((cfg0.win 0).blk t0_0).view.emb y) y
  rw [h]

/-- The factor. -/
theorem block_factor (c : Dev nD) : iblk m c 1 t0_0 = V m c main_v16 := by
  funext y
  have h0 : win0_1.index t0_0 0 = 0 := by decide +kernel
  unfold iblk
  generalize V m c = G
  show G main_v16 _ = G main_v16 _
  blk_point [h0]

/-! ## The arrays -/

/-- The first index of an array with one entry. -/
theorem first_S1 (h : 0 < S1.numel) : (Shape.Idx.first h : S1.Idx) = ix1 0 := by
  funext a
  fin_cases a
  rfl

/-- The array of the codes. -/
theorem codes_final (c : Dev nD) (D : FVec Ideal S8192x4096 .bf16) (hD : V m c main_v18 = D)
    (r : EReal) (hr : V m c main_v14 (ix1 0) = r) : (dats m 0 c).arrAt 6 cfg0.N = codesAt D r := by
  refine (dats m 0 c).arrAt_eq_of_after_last 6 t0_0 (by decide +kernel) _ fun j => ?_
  blk_simp
  rw [after0_6]; unfold outsAt0; frame_out
  simp only [read_unread_whole]
  rw [block_dy, block_inv, hD]
  rw [first_S1, hr, pay_codes]

/-- The array of the weight gradient. -/
theorem dw_final (c : Dev nD) (X : FVec Ideal S8192x8192 .fp8e4m3) (hX : V m c main_v17 = X)
    (D : FVec Ideal S8192x4096 .bf16) (hD : V m c main_v18 = D) (A : FVec Ideal S8192x4096 .f32) (hA : V m c main_arg3 = A)
    (r : EReal) (hr : V m c main_v14 (ix1 0) = r) (s : EReal) (hs : V m c main_v16 (ix1 0) = s) :
    (dats m 0 c).arrAt 5 cfg0.N = dwAt X (codesAt D r) A s := by
  refine (dats m 0 c).arrAt_eq_of_after_last 5 t0_0 (by decide +kernel) _ fun j => ?_
  blk_simp
  rw [after0_5]; unfold outsAt0; frame_out
  simp only [read_unread_whole]
  rw [block_x, block_dy, block_acc, block_inv, block_factor, hX, hD, hA]
  rw [first_S1, hr, hs, pay_dw]

end Cert.ReferenceIdeal.Value

end
-- ==== Proof.ReferenceRun.lean ====
/- The reference's run, read at its three results: each as a function of the reference's arguments. -/
module

public import proofs.«01_k».proof.Proof.ReferenceCall

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)

open Cert.Scale

variable (m : (ℓ : Loc nD τ sig) → Buf (Elt Ideal) ℓ) (ρ : Dev nD → PrngReg)

/-! ## The results as functions of the arguments -/

/-- The activations, the two leading axes in one. -/
def xFlat (c : Dev nD) : FVec Ideal S8192x8192 .fp8e4m3 :=
  shapeCast S8192x8192 (m ((c : Thread nD τ).loc main_arg0)) shapeCasts_S2x4096x8192_S8192x8192

/-- The gradients, the two leading axes in one. -/
def dyFlat (c : Dev nD) : FVec Ideal S8192x4096 .bf16 :=
  shapeCast S8192x4096 (m ((c : Thread nD τ).loc main_arg2)) shapeCasts_S2x4096x4096_S8192x4096

/-- The scale of the gradients. -/
def scaleOf (c : Dev nD) : EReal := refScale pw (largest (m ((c : Thread nD τ).loc main_arg2)) * recip)

/-- The factor: the scale of the activations times the scale of the gradients. -/
def factorOf (a1 : FVec Ideal S_ .f32) (s : EReal) : EReal := a1 ix0 * s

/-- The codes, flat. -/
def codesFlat (c : Dev nD) : FVec Ideal S8192x4096 .fp8e5m2 := codesAt (dyFlat m c) (Ideal.div 1 (scaleOf m c))

/-- The weight gradient. -/
def dwOf (c : Dev nD) : FVec Ideal S8192x4096 .f32 :=
  dwAt (xFlat m c) (codesFlat m c) (m ((c : Thread nD τ).loc main_arg3))
    (factorOf (m ((c : Thread nD τ).loc main_arg1)) (scaleOf m c))

/-! ## The call's two arrays -/

/-- The call leaves the codes in one array -/
theorem codes_array (c : Dev nD) : (dats m 0 c).arrAt 6 cfg0.N = codesFlat m c :=
  codes_final m c (dyFlat m c) (dy_val m c) (Ideal.div 1 (scaleOf m c)) (inv_val m c 0)

/-- and the weight gradient in the other. -/
theorem dw_array (c : Dev nD) : (dats m 0 c).arrAt 5 cfg0.N = dwOf m c :=
  dw_final m c (xFlat m c) (x_val m c) (dyFlat m c) (dy_val m c) (m ((c : Thread nD τ).loc main_arg3)) (V_main_arg3 m c)
    (Ideal.div 1 (scaleOf m c)) (inv_val m c 0) (factorOf (m ((c : Thread nD τ).loc main_arg1)) (scaleOf m c)) (factor_val m c 0)

/-! ## After the call -/

/-- The reshape after the call, on any contents. -/
theorem codes_shape (σ : Valuation τ sig (Elt Ideal)) : StableHlo.after hostOps1 σ (Proc.devRef .tc main_v20)
    = shapeCast S2x4096x4096 (σ (Proc.devRef .tc main_v19_1)) shapeCasts_S8192x4096_S2x4096x4096 := by
  entry_read
  rfl

/-- The reshape leaves the scale alone. -/
theorem scale_after (σ : Valuation τ sig (Elt Ideal)) : StableHlo.after hostOps1 σ (Proc.devRef .tc main_v12)
    = σ (Proc.devRef .tc main_v12) := by
  entry_read
  rfl

/-- The codes end in the gradients' own shape. -/
theorem tail_codes (c : Dev nD) : Pipeline.afterTail₀ cfgs (dats m) 0 (V0 m) [hostOps1] c main_v20
    = shapeCast S2x4096x4096 (codesFlat m c) shapeCasts_S8192x4096_S2x4096x4096 := by
  unfold Pipeline.afterTail₀
  rw [List.flatten_cons, List.flatten_nil, List.append_nil]
  refine (codes_shape _).trans ?_
  have h := (Pipeline.withArrays_arr spec0 launch0.win.arr_inj c (V0 m c) (fun w => (dats m 0 c).arrAt w cfg0.N) 6).trans (codes_array m c)
  exact congrArg (fun Q => shapeCast S2x4096x4096 Q shapeCasts_S8192x4096_S2x4096x4096) h

/-- The scale ends as the host code before the call computed it. -/
theorem tail_scale (c : Dev nD) : Pipeline.afterTail₀ cfgs (dats m) 0 (V0 m) [hostOps1] c main_v12 = fun _ => scaleOf m c := by
  unfold Pipeline.afterTail₀
  rw [List.flatten_cons, List.flatten_nil, List.append_nil]
  refine (scale_after _).trans ?_
  rw [Pipeline.withArrays_of_ne _ c (V0 m c) _ main_v12 (by exact (by decide : ∀ w, Pipeline.arrRef spec0 w ≠ main_v12))]
  funext i
  rw [show i = ix0 from funext fun k => k.elim0]
  exact scale_val m c

/-! ## The run -/

/-- Every execution of the reference terminates with its three results at these functions of its arguments, and the
    arguments as launched. -/
theorem run_results : θ_run defs (onTc (τ := τ) (main (F := Ideal))) ⟨m, fun _ => 0, ρ⟩ (fun r => ∀ c : Dev nD,
      r.2.mem ((c.tc : Thread nD τ).loc main_v19_0) = dwOf m c
      ∧ r.2.mem ((c.tc : Thread nD τ).loc main_v20) = shapeCast S2x4096x4096 (codesFlat m c) shapeCasts_S8192x4096_S2x4096x4096
      ∧ r.2.mem ((c.tc : Thread nD τ).loc main_v12) = (fun _ => scaleOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (dw_array m c),
      ((h c).2 main_v20 (Pipeline.mem_restRefs_of main_v20 (by decide) (by decide))).trans (tail_codes m c),
      ((h c).2 main_v12 (Pipeline.mem_restRefs_of main_v12 (by decide) (by decide))).trans (tail_scale m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c)))⟩) (run_main m ρ)

end Cert.ReferenceIdeal.Value

end
-- ==== Proof.Equation.lean ====
/- The equation: on equal arguments the kernel's program and the reference have the same largest magnitude, hence the
   same scale, the same codes and the same weight gradient. -/
module

public import proofs.«01_k».proof.Proof.KernelRun
public import proofs.«01_k».proof.Proof.KernelValue
public import proofs.«01_k».proof.Proof.ReferenceRun

@[expose] public section

set_option maxRecDepth 16384

noncomputable section

namespace Cert.Equation

open Idealize.ShloMosaic Idealize.ShloMosaic.TcCoe Idealize.SL.Sem
open Cert.Scale Cert.Magnitude

/-! ## The largest magnitude -/

/-- The upper bounds of the reference's largest magnitude are those of every magnitude. -/
theorem largest_le (g : FVec Ideal Cert.ReferenceIdeal.S2x4096x4096 .bf16) (b : EReal) :
    Cert.ReferenceIdeal.Value.largest g ≤ b ↔ ∀ i, mag (g i) ≤ b := by
  unfold Cert.ReferenceIdeal.Value.largest
  refine (reduceMax_le _ _ _ _ _ (fun k => funext fun a => a.elim0) b).trans ?_
  rw [show (constant (F := Ideal) Cert.ReferenceIdeal.S_ .f32 0xFF800000#32) (Shape.Idx.first Cert.ReferenceIdeal.Gen.h_S_) = (⊥ : EReal)
    from ninf_word]
  exact ⟨fun h => h.2, fun h => ⟨bot_le, h⟩⟩

/-- A property of every entry of a flat array, its two coordinates named. -/
theorem forall_entries (D : FVec Ideal Cert.KernelIdeal.S8192x4096 .bf16) (Q : EReal → Prop) :
    (∀ (i : Fin 8192) (l : Fin 4096), Q (D (ix2 i l))) ↔ ∀ i, Q (D i) := by
  constructor
  · intro h i
    rw [show i = ix2 (i 0) (i 1) from funext fun a => by fin_cases a <;> rfl]
    exact h _ _
  · intro h i l
    exact h _

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The kernel's largest magnitude is the reference's. The kernel starts its maximum at zero, the reference at minus
    infinity; a magnitude is not negative, so this makes no difference. -/
theorem max_eq (c : Dev Cert.KernelIdeal.nD) (g : FVec Ideal Cert.KernelIdeal.S2x4096x4096 .bf16)
    (hg : m ((c : Thread Cert.KernelIdeal.nD Cert.KernelIdeal.τ).loc Cert.KernelIdeal.main_arg2) = g) :
    Cert.KernelIdeal.Value.kernelMax m ρ c = Cert.ReferenceIdeal.Value.largest g := by
  refine eq_of_forall_ge_iff fun b => ?_
  rw [Cert.KernelIdeal.Value.kernelMax_le, largest_le]
  rw [forall_entries (Cert.KernelIdeal.Value.dyFlat m c) (fun x => mag x ≤ b)]
  unfold Cert.KernelIdeal.Value.dyFlat
  rw [hg, forall_shapeCast g _ (fun x => mag x ≤ b)]
  exact ⟨fun h => h.2, fun h => ⟨(mag_nonneg _).trans (h (ix3 0 0 0)), h⟩⟩

/-! ## The three results -/

/-- The two programs' codes are the same function of the gradients and the inverse scale. -/
theorem codesAt_same (D : FVec Ideal Cert.KernelIdeal.S8192x4096 .bf16) (r : EReal) :
    Cert.KernelIdeal.Value.codesAt D r = Cert.ReferenceIdeal.Value.codesAt D r := rfl

variable (c : Dev Cert.KernelIdeal.nD)
  (h0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3))

include h2 in
/-- The scales are equal, -/
theorem twoTo_eq : twoTo (Cert.KernelIdeal.Value.kernelExpo m ρ c) = Cert.ReferenceIdeal.Value.scaleOf m' c := by
  unfold Cert.KernelIdeal.Value.kernelExpo Cert.ReferenceIdeal.Value.scaleOf
  rw [scale_eq, max_eq m ρ c _ h2.symm]

include h2 in
/-- and the inverses, -/
theorem inverse_eq : twoTo (-Cert.KernelIdeal.Value.kernelExpo m ρ c) = Ideal.div 1 (Cert.ReferenceIdeal.Value.scaleOf m' c) := by
  unfold Cert.KernelIdeal.Value.kernelExpo Cert.ReferenceIdeal.Value.scaleOf
  rw [inv_eq, max_eq m ρ c _ h2.symm]

include h2 in
/-- and the flat codes. -/
theorem flat_eq : Cert.KernelIdeal.Value.codesAt (Cert.KernelIdeal.Value.dyFlat m c) (twoTo (-Cert.KernelIdeal.Value.kernelExpo m ρ c))
    = Cert.ReferenceIdeal.Value.codesFlat m' c := by
  rw [inverse_eq m ρ m' c h2]
  unfold Cert.ReferenceIdeal.Value.codesFlat Cert.KernelIdeal.Value.dyFlat Cert.ReferenceIdeal.Value.dyFlat
  rw [h2]
  exact codesAt_same _ _

include h0 h1 h2 h3 in
/-- Result 1, the weight gradient. -/
theorem dw_eq : Cert.ReferenceIdeal.Value.dwOf m' c
    = Cert.KernelIdeal.Gen.W11 m ρ c (Proc.devRef .tc Cert.KernelIdeal.main_v47) := by
  rw [Cert.KernelIdeal.Value.W11_dw, flat_eq m ρ m' c h2, twoTo_eq m ρ m' c h2]
  unfold Cert.ReferenceIdeal.Value.dwOf Cert.KernelIdeal.Value.xFlat Cert.ReferenceIdeal.Value.xFlat
  rw [h0, h1, h3]
  rfl

include h2 in
/-- Result 2, the codes. -/
theorem codes_eq : shapeCast Cert.ReferenceIdeal.S2x4096x4096 (Cert.ReferenceIdeal.Value.codesFlat m' c)
      Cert.ReferenceIdeal.Gen.shapeCasts_S8192x4096_S2x4096x4096
    = Cert.KernelIdeal.Gen.W11 m ρ c (Proc.devRef .tc Cert.KernelIdeal.main_v48) := by
  rw [Cert.KernelIdeal.Value.W11_codes, flat_eq m ρ m' c h2]

include h2 in
/-- Result 3, the scale. -/
theorem scales_eq : (fun _ => Cert.ReferenceIdeal.Value.scaleOf m' c)
    = Cert.KernelIdeal.Gen.W11 m ρ c (Proc.devRef .tc Cert.KernelIdeal.main_v32) := by
  rw [Cert.KernelIdeal.Value.W11_scale, twoTo_eq m ρ m' c h2]

end Cert.Equation

end
-- ==== Proof.lean ====
/- The proof of the five claims: the three programs run and leave their arguments unchanged; nothing was rewritten between
   the kernel and its ideal form; and the kernel's three results equal the reference's over the reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel and the reference, started on equal arguments, both terminate with the same three results: those that the
    kernel's last buffers hold. -/
theorem algebraic : Cert.algebraic_KernelIdeal_ReferenceIdeal
    (hKernelIdeal := Cert.KernelIdeal.Gen.facts) (hReferenceIdeal := Cert.ReferenceIdeal.Gen.facts) := fun m ρ m' ρ' _ hag =>
  ⟨fun c => Cert.KernelIdeal.Gen.W11 m ρ c (Proc.devRef .tc Cert.KernelIdeal.main_v47),
   fun c => Cert.KernelIdeal.Gen.W11 m ρ c (Proc.devRef .tc Cert.KernelIdeal.main_v48),
   fun c => Cert.KernelIdeal.Gen.W11 m ρ c (Proc.devRef .tc Cert.KernelIdeal.main_v32),
   Cert.KernelIdeal.Value.run_results m ρ,
   (θ_run _ _ _).mono (fun _ h c => by
      obtain ⟨e0, e1, e2, e3⟩ := hag c
      obtain ⟨d0, d1, d2, da⟩ := h c
      exact ⟨d0.trans (Cert.Equation.dw_eq m ρ m' c e0 e1 e2 e3), d1.trans (Cert.Equation.codes_eq m ρ m' c e2),
        d2.trans (Cert.Equation.scales_eq m ρ m' c e2), da⟩) (Cert.ReferenceIdeal.Value.run_results m' ρ')⟩

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
